-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 2048]⟩ ⟨2, ![4096, 2048]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x2048 : Shape := ⟨2, ![4096, 2048]⟩
abbrev S256x2048 : Shape := ⟨2, ![256, 2048]⟩
abbrev S256x4096 : Shape := ⟨2, ![256, 4096]⟩
abbrev S4x256x2048 : Shape := ⟨3, ![4, 256, 2048]⟩
abbrev S16x128 : Shape := ⟨2, ![16, 128]⟩
abbrev S16 : Shape := ⟨1, ![16]⟩
abbrev S_ : Shape := ⟨0, ![]⟩
abbrev S1 : Shape := ⟨1, ![1]⟩
abbrev S1x256x2048 : Shape := ⟨3, ![1, 256, 2048]⟩
abbrev S256x256 : Shape := ⟨2, ![256, 256]⟩
abbrev S256x1024 : Shape := ⟨2, ![256, 1024]⟩
abbrev S1024x2048 : Shape := ⟨2, ![1024, 2048]⟩
abbrev S1x1x1 : Shape := ⟨3, ![1, 1, 1]⟩
abbrev S128 : Shape := ⟨1, ![128]⟩
abbrev S1x128 : Shape := ⟨2, ![1, 128]⟩
abbrev S1x16x128 : Shape := ⟨3, ![1, 16, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x2048, .f32⟩
  | .hbm, ⟨2, _⟩ => ⟨S256x2048, .f32⟩
  | .local _ .vmem, ⟨0, _⟩ => ⟨S4096x256, .f32⟩
  | .local _ .vmem, ⟨1, _⟩ => ⟨S256x2048, .f32⟩
  | .local _ .vmem, ⟨2, _⟩ => ⟨S4096x256, .bf16⟩
  | .local _ .vmem, ⟨3, _⟩ => ⟨S256x4096, .bf16⟩
  | .local _ .vmem, ⟨4, _⟩ => ⟨S4x256x2048, .f32⟩
  | .local _ .vmem, ⟨5, _⟩ => ⟨S4096x2048, .bf16⟩
  | .local _ .vmem, ⟨6, _⟩ => ⟨S16x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  (ofTc nBuf bufTy 1 82 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c0_i32_138 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v205 : BitVec 32 := Scalar.subi v2 c0_i32_138
  let c16_i32_139 : BitVec 32 := 16#32
  let c0_i32_140 : BitVec 32 := 0#32
  let v206 : BitVec 1 := Scalar.cmpi .eq c16_i32_139 c0_i32_140
  let c1_i32_141 : BitVec 32 := 1#32
  let v207 : BitVec 32 := Scalar.select v206 c1_i32_141 c16_i32_139
  let v208 : BitVec 32 := Scalar.remsi v205 v207
  let c0_i32_143 : BitVec 32 := 0#32
  let v210 : BitVec 1 := Scalar.cmpi .slt v208 c0_i32_143
  let c0_i32_144 : BitVec 32 := 0#32
  let v211 : BitVec 1 := Scalar.cmpi .slt v207 c0_i32_144
  let v212 : BitVec 1 := Scalar.xori v210 v211
  let c0_i32_142 : BitVec 32 := 0#32
  let v209 : BitVec 1 := Scalar.cmpi .ne v208 c0_i32_142
  let v213 : BitVec 1 := Scalar.andi v212 v209
  let v214 : BitVec 32 := Scalar.addi v208 v207
  let v215 : BitVec 32 := Scalar.select v213 v214 v208
  let c256_i32 : BitVec 32 := 256#32
  let v216 : BitVec 32 := Scalar.muli v215 c256_i32
  let c0_i32_149 : BitVec 32 := 0#32
  ![v216.toNat, 0]
def k0_off2 (d0 : Dev nD) (c1_i32_286 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v417 : BitVec 32 := Scalar.addi v2 c1_i32_286
  let c16_i32_287 : BitVec 32 := 16#32
  let c0_i32_288 : BitVec 32 := 0#32
  let v418 : BitVec 1 := Scalar.cmpi .eq c16_i32_287 c0_i32_288
  let c1_i32_289 : BitVec 32 := 1#32
  let v419 : BitVec 32 := Scalar.select v418 c1_i32_289 c16_i32_287
  let v420 : BitVec 32 := Scalar.remsi v417 v419
  let c0_i32_291 : BitVec 32 := 0#32
  let v422 : BitVec 1 := Scalar.cmpi .slt v420 c0_i32_291
  let c0_i32_292 : BitVec 32 := 0#32
  let v423 : BitVec 1 := Scalar.cmpi .slt v419 c0_i32_292
  let v424 : BitVec 1 := Scalar.xori v422 v423
  let c0_i32_290 : BitVec 32 := 0#32
  let v421 : BitVec 1 := Scalar.cmpi .ne v420 c0_i32_290
  let v425 : BitVec 1 := Scalar.andi v424 v421
  let v426 : BitVec 32 := Scalar.addi v420 v419
  let v427 : BitVec 32 := Scalar.select v425 v426 v420
  let c256_i32_293 : BitVec 32 := 256#32
  let v428 : BitVec 32 := Scalar.muli v427 c256_i32_293
  let c0_i32_300 : BitVec 32 := 0#32
  ![v428.toNat, 0]
def k0_dev16 (d0 : Dev nD) : Nat :=
  let c0_i32_297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_286 : BitVec 32 := 1#32
  let v417 : BitVec 32 := Scalar.addi v2 c1_i32_286
  let c16_i32_287 : BitVec 32 := 16#32
  let c0_i32_288 : BitVec 32 := 0#32
  let v418 : BitVec 1 := Scalar.cmpi .eq c16_i32_287 c0_i32_288
  let c1_i32_289 : BitVec 32 := 1#32
  let v419 : BitVec 32 := Scalar.select v418 c1_i32_289 c16_i32_287
  let v420 : BitVec 32 := Scalar.remsi v417 v419
  let c0_i32_291 : BitVec 32 := 0#32
  let v422 : BitVec 1 := Scalar.cmpi .slt v420 c0_i32_291
  let c0_i32_292 : BitVec 32 := 0#32
  let v423 : BitVec 1 := Scalar.cmpi .slt v419 c0_i32_292
  let v424 : BitVec 1 := Scalar.xori v422 v423
  let c0_i32_290 : BitVec 32 := 0#32
  let v421 : BitVec 1 := Scalar.cmpi .ne v420 c0_i32_290
  let v425 : BitVec 1 := Scalar.andi v424 v421
  let v426 : BitVec 32 := Scalar.addi v420 v419
  let v427 : BitVec 32 := Scalar.select v425 v426 v420
  let c1_i32_296 : BitVec 32 := 1#32
  let v429 : BitVec 32 := Scalar.muli v427 c1_i32_296
  let v430 : BitVec 32 := Scalar.addi c0_i32_297 v429
  v430.toNat
def k0_dev17 (d0 : Dev nD) : Nat :=
  let c0_i32_312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_301 : BitVec 32 := 2#32
  let v437 : BitVec 32 := Scalar.addi v2 c2_i32_301
  let c16_i32_302 : BitVec 32 := 16#32
  let c0_i32_303 : BitVec 32 := 0#32
  let v438 : BitVec 1 := Scalar.cmpi .eq c16_i32_302 c0_i32_303
  let c1_i32_304 : BitVec 32 := 1#32
  let v439 : BitVec 32 := Scalar.select v438 c1_i32_304 c16_i32_302
  let v440 : BitVec 32 := Scalar.remsi v437 v439
  let c0_i32_306 : BitVec 32 := 0#32
  let v442 : BitVec 1 := Scalar.cmpi .slt v440 c0_i32_306
  let c0_i32_307 : BitVec 32 := 0#32
  let v443 : BitVec 1 := Scalar.cmpi .slt v439 c0_i32_307
  let v444 : BitVec 1 := Scalar.xori v442 v443
  let c0_i32_305 : BitVec 32 := 0#32
  let v441 : BitVec 1 := Scalar.cmpi .ne v440 c0_i32_305
  let v445 : BitVec 1 := Scalar.andi v444 v441
  let v446 : BitVec 32 := Scalar.addi v440 v439
  let v447 : BitVec 32 := Scalar.select v445 v446 v440
  let c1_i32_311 : BitVec 32 := 1#32
  let v449 : BitVec 32 := Scalar.muli v447 c1_i32_311
  let v450 : BitVec 32 := Scalar.addi c0_i32_312 v449
  v450.toNat
def k0_dev18 (d0 : Dev nD) : Nat :=
  let c0_i32_326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_315 : BitVec 32 := 3#32
  let v457 : BitVec 32 := Scalar.addi v2 c3_i32_315
  let c16_i32_316 : BitVec 32 := 16#32
  let c0_i32_317 : BitVec 32 := 0#32
  let v458 : BitVec 1 := Scalar.cmpi .eq c16_i32_316 c0_i32_317
  let c1_i32_318 : BitVec 32 := 1#32
  let v459 : BitVec 32 := Scalar.select v458 c1_i32_318 c16_i32_316
  let v460 : BitVec 32 := Scalar.remsi v457 v459
  let c0_i32_320 : BitVec 32 := 0#32
  let v462 : BitVec 1 := Scalar.cmpi .slt v460 c0_i32_320
  let c0_i32_321 : BitVec 32 := 0#32
  let v463 : BitVec 1 := Scalar.cmpi .slt v459 c0_i32_321
  let v464 : BitVec 1 := Scalar.xori v462 v463
  let c0_i32_319 : BitVec 32 := 0#32
  let v461 : BitVec 1 := Scalar.cmpi .ne v460 c0_i32_319
  let v465 : BitVec 1 := Scalar.andi v464 v461
  let v466 : BitVec 32 := Scalar.addi v460 v459
  let v467 : BitVec 32 := Scalar.select v465 v466 v460
  let c1_i32_325 : BitVec 32 := 1#32
  let v469 : BitVec 32 := Scalar.muli v467 c1_i32_325
  let v470 : BitVec 32 := Scalar.addi c0_i32_326 v469
  v470.toNat
def k0_dev19 (d0 : Dev nD) : Nat :=
  let c0_i32_340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_329 : BitVec 32 := 4#32
  let v477 : BitVec 32 := Scalar.addi v2 c4_i32_329
  let c16_i32_330 : BitVec 32 := 16#32
  let c0_i32_331 : BitVec 32 := 0#32
  let v478 : BitVec 1 := Scalar.cmpi .eq c16_i32_330 c0_i32_331
  let c1_i32_332 : BitVec 32 := 1#32
  let v479 : BitVec 32 := Scalar.select v478 c1_i32_332 c16_i32_330
  let v480 : BitVec 32 := Scalar.remsi v477 v479
  let c0_i32_334 : BitVec 32 := 0#32
  let v482 : BitVec 1 := Scalar.cmpi .slt v480 c0_i32_334
  let c0_i32_335 : BitVec 32 := 0#32
  let v483 : BitVec 1 := Scalar.cmpi .slt v479 c0_i32_335
  let v484 : BitVec 1 := Scalar.xori v482 v483
  let c0_i32_333 : BitVec 32 := 0#32
  let v481 : BitVec 1 := Scalar.cmpi .ne v480 c0_i32_333
  let v485 : BitVec 1 := Scalar.andi v484 v481
  let v486 : BitVec 32 := Scalar.addi v480 v479
  let v487 : BitVec 32 := Scalar.select v485 v486 v480
  let c1_i32_339 : BitVec 32 := 1#32
  let v489 : BitVec 32 := Scalar.muli v487 c1_i32_339
  let v490 : BitVec 32 := Scalar.addi c0_i32_340 v489
  v490.toNat
def k0_dev20 (d0 : Dev nD) : Nat :=
  let c0_i32_354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_343 : BitVec 32 := 5#32
  let v497 : BitVec 32 := Scalar.addi v2 c5_i32_343
  let c16_i32_344 : BitVec 32 := 16#32
  let c0_i32_345 : BitVec 32 := 0#32
  let v498 : BitVec 1 := Scalar.cmpi .eq c16_i32_344 c0_i32_345
  let c1_i32_346 : BitVec 32 := 1#32
  let v499 : BitVec 32 := Scalar.select v498 c1_i32_346 c16_i32_344
  let v500 : BitVec 32 := Scalar.remsi v497 v499
  let c0_i32_348 : BitVec 32 := 0#32
  let v502 : BitVec 1 := Scalar.cmpi .slt v500 c0_i32_348
  let c0_i32_349 : BitVec 32 := 0#32
  let v503 : BitVec 1 := Scalar.cmpi .slt v499 c0_i32_349
  let v504 : BitVec 1 := Scalar.xori v502 v503
  let c0_i32_347 : BitVec 32 := 0#32
  let v501 : BitVec 1 := Scalar.cmpi .ne v500 c0_i32_347
  let v505 : BitVec 1 := Scalar.andi v504 v501
  let v506 : BitVec 32 := Scalar.addi v500 v499
  let v507 : BitVec 32 := Scalar.select v505 v506 v500
  let c1_i32_353 : BitVec 32 := 1#32
  let v509 : BitVec 32 := Scalar.muli v507 c1_i32_353
  let v510 : BitVec 32 := Scalar.addi c0_i32_354 v509
  v510.toNat
def k0_dev21 (d0 : Dev nD) : Nat :=
  let c0_i32_368 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_357 : BitVec 32 := 6#32
  let v517 : BitVec 32 := Scalar.addi v2 c6_i32_357
  let c16_i32_358 : BitVec 32 := 16#32
  let c0_i32_359 : BitVec 32 := 0#32
  let v518 : BitVec 1 := Scalar.cmpi .eq c16_i32_358 c0_i32_359
  let c1_i32_360 : BitVec 32 := 1#32
  let v519 : BitVec 32 := Scalar.select v518 c1_i32_360 c16_i32_358
  let v520 : BitVec 32 := Scalar.remsi v517 v519
  let c0_i32_362 : BitVec 32 := 0#32
  let v522 : BitVec 1 := Scalar.cmpi .slt v520 c0_i32_362
  let c0_i32_363 : BitVec 32 := 0#32
  let v523 : BitVec 1 := Scalar.cmpi .slt v519 c0_i32_363
  let v524 : BitVec 1 := Scalar.xori v522 v523
  let c0_i32_361 : BitVec 32 := 0#32
  let v521 : BitVec 1 := Scalar.cmpi .ne v520 c0_i32_361
  let v525 : BitVec 1 := Scalar.andi v524 v521
  let v526 : BitVec 32 := Scalar.addi v520 v519
  let v527 : BitVec 32 := Scalar.select v525 v526 v520
  let c1_i32_367 : BitVec 32 := 1#32
  let v529 : BitVec 32 := Scalar.muli v527 c1_i32_367
  let v530 : BitVec 32 := Scalar.addi c0_i32_368 v529
  v530.toNat
def k0_dev22 (d0 : Dev nD) : Nat :=
  let c0_i32_382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_371 : BitVec 32 := 7#32
  let v537 : BitVec 32 := Scalar.addi v2 c7_i32_371
  let c16_i32_372 : BitVec 32 := 16#32
  let c0_i32_373 : BitVec 32 := 0#32
  let v538 : BitVec 1 := Scalar.cmpi .eq c16_i32_372 c0_i32_373
  let c1_i32_374 : BitVec 32 := 1#32
  let v539 : BitVec 32 := Scalar.select v538 c1_i32_374 c16_i32_372
  let v540 : BitVec 32 := Scalar.remsi v537 v539
  let c0_i32_376 : BitVec 32 := 0#32
  let v542 : BitVec 1 := Scalar.cmpi .slt v540 c0_i32_376
  let c0_i32_377 : BitVec 32 := 0#32
  let v543 : BitVec 1 := Scalar.cmpi .slt v539 c0_i32_377
  let v544 : BitVec 1 := Scalar.xori v542 v543
  let c0_i32_375 : BitVec 32 := 0#32
  let v541 : BitVec 1 := Scalar.cmpi .ne v540 c0_i32_375
  let v545 : BitVec 1 := Scalar.andi v544 v541
  let v546 : BitVec 32 := Scalar.addi v540 v539
  let v547 : BitVec 32 := Scalar.select v545 v546 v540
  let c1_i32_381 : BitVec 32 := 1#32
  let v549 : BitVec 32 := Scalar.muli v547 c1_i32_381
  let v550 : BitVec 32 := Scalar.addi c0_i32_382 v549
  v550.toNat
def k0_dev23 (d0 : Dev nD) : Nat :=
  let c0_i32_396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_385 : BitVec 32 := 8#32
  let v557 : BitVec 32 := Scalar.addi v2 c8_i32_385
  let c16_i32_386 : BitVec 32 := 16#32
  let c0_i32_387 : BitVec 32 := 0#32
  let v558 : BitVec 1 := Scalar.cmpi .eq c16_i32_386 c0_i32_387
  let c1_i32_388 : BitVec 32 := 1#32
  let v559 : BitVec 32 := Scalar.select v558 c1_i32_388 c16_i32_386
  let v560 : BitVec 32 := Scalar.remsi v557 v559
  let c0_i32_390 : BitVec 32 := 0#32
  let v562 : BitVec 1 := Scalar.cmpi .slt v560 c0_i32_390
  let c0_i32_391 : BitVec 32 := 0#32
  let v563 : BitVec 1 := Scalar.cmpi .slt v559 c0_i32_391
  let v564 : BitVec 1 := Scalar.xori v562 v563
  let c0_i32_389 : BitVec 32 := 0#32
  let v561 : BitVec 1 := Scalar.cmpi .ne v560 c0_i32_389
  let v565 : BitVec 1 := Scalar.andi v564 v561
  let v566 : BitVec 32 := Scalar.addi v560 v559
  let v567 : BitVec 32 := Scalar.select v565 v566 v560
  let c1_i32_395 : BitVec 32 := 1#32
  let v569 : BitVec 32 := Scalar.muli v567 c1_i32_395
  let v570 : BitVec 32 := Scalar.addi c0_i32_396 v569
  v570.toNat
def k0_dev24 (d0 : Dev nD) : Nat :=
  let c0_i32_410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_399 : BitVec 32 := 9#32
  let v577 : BitVec 32 := Scalar.addi v2 c9_i32_399
  let c16_i32_400 : BitVec 32 := 16#32
  let c0_i32_401 : BitVec 32 := 0#32
  let v578 : BitVec 1 := Scalar.cmpi .eq c16_i32_400 c0_i32_401
  let c1_i32_402 : BitVec 32 := 1#32
  let v579 : BitVec 32 := Scalar.select v578 c1_i32_402 c16_i32_400
  let v580 : BitVec 32 := Scalar.remsi v577 v579
  let c0_i32_404 : BitVec 32 := 0#32
  let v582 : BitVec 1 := Scalar.cmpi .slt v580 c0_i32_404
  let c0_i32_405 : BitVec 32 := 0#32
  let v583 : BitVec 1 := Scalar.cmpi .slt v579 c0_i32_405
  let v584 : BitVec 1 := Scalar.xori v582 v583
  let c0_i32_403 : BitVec 32 := 0#32
  let v581 : BitVec 1 := Scalar.cmpi .ne v580 c0_i32_403
  let v585 : BitVec 1 := Scalar.andi v584 v581
  let v586 : BitVec 32 := Scalar.addi v580 v579
  let v587 : BitVec 32 := Scalar.select v585 v586 v580
  let c1_i32_409 : BitVec 32 := 1#32
  let v589 : BitVec 32 := Scalar.muli v587 c1_i32_409
  let v590 : BitVec 32 := Scalar.addi c0_i32_410 v589
  v590.toNat
def k0_dev25 (d0 : Dev nD) : Nat :=
  let c0_i32_424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_413 : BitVec 32 := 10#32
  let v597 : BitVec 32 := Scalar.addi v2 c10_i32_413
  let c16_i32_414 : BitVec 32 := 16#32
  let c0_i32_415 : BitVec 32 := 0#32
  let v598 : BitVec 1 := Scalar.cmpi .eq c16_i32_414 c0_i32_415
  let c1_i32_416 : BitVec 32 := 1#32
  let v599 : BitVec 32 := Scalar.select v598 c1_i32_416 c16_i32_414
  let v600 : BitVec 32 := Scalar.remsi v597 v599
  let c0_i32_418 : BitVec 32 := 0#32
  let v602 : BitVec 1 := Scalar.cmpi .slt v600 c0_i32_418
  let c0_i32_419 : BitVec 32 := 0#32
  let v603 : BitVec 1 := Scalar.cmpi .slt v599 c0_i32_419
  let v604 : BitVec 1 := Scalar.xori v602 v603
  let c0_i32_417 : BitVec 32 := 0#32
  let v601 : BitVec 1 := Scalar.cmpi .ne v600 c0_i32_417
  let v605 : BitVec 1 := Scalar.andi v604 v601
  let v606 : BitVec 32 := Scalar.addi v600 v599
  let v607 : BitVec 32 := Scalar.select v605 v606 v600
  let c1_i32_423 : BitVec 32 := 1#32
  let v609 : BitVec 32 := Scalar.muli v607 c1_i32_423
  let v610 : BitVec 32 := Scalar.addi c0_i32_424 v609
  v610.toNat
def k0_dev26 (d0 : Dev nD) : Nat :=
  let c0_i32_438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_427 : BitVec 32 := 11#32
  let v617 : BitVec 32 := Scalar.addi v2 c11_i32_427
  let c16_i32_428 : BitVec 32 := 16#32
  let c0_i32_429 : BitVec 32 := 0#32
  let v618 : BitVec 1 := Scalar.cmpi .eq c16_i32_428 c0_i32_429
  let c1_i32_430 : BitVec 32 := 1#32
  let v619 : BitVec 32 := Scalar.select v618 c1_i32_430 c16_i32_428
  let v620 : BitVec 32 := Scalar.remsi v617 v619
  let c0_i32_432 : BitVec 32 := 0#32
  let v622 : BitVec 1 := Scalar.cmpi .slt v620 c0_i32_432
  let c0_i32_433 : BitVec 32 := 0#32
  let v623 : BitVec 1 := Scalar.cmpi .slt v619 c0_i32_433
  let v624 : BitVec 1 := Scalar.xori v622 v623
  let c0_i32_431 : BitVec 32 := 0#32
  let v621 : BitVec 1 := Scalar.cmpi .ne v620 c0_i32_431
  let v625 : BitVec 1 := Scalar.andi v624 v621
  let v626 : BitVec 32 := Scalar.addi v620 v619
  let v627 : BitVec 32 := Scalar.select v625 v626 v620
  let c1_i32_437 : BitVec 32 := 1#32
  let v629 : BitVec 32 := Scalar.muli v627 c1_i32_437
  let v630 : BitVec 32 := Scalar.addi c0_i32_438 v629
  v630.toNat
def k0_dev27 (d0 : Dev nD) : Nat :=
  let c0_i32_452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_441 : BitVec 32 := 12#32
  let v637 : BitVec 32 := Scalar.addi v2 c12_i32_441
  let c16_i32_442 : BitVec 32 := 16#32
  let c0_i32_443 : BitVec 32 := 0#32
  let v638 : BitVec 1 := Scalar.cmpi .eq c16_i32_442 c0_i32_443
  let c1_i32_444 : BitVec 32 := 1#32
  let v639 : BitVec 32 := Scalar.select v638 c1_i32_444 c16_i32_442
  let v640 : BitVec 32 := Scalar.remsi v637 v639
  let c0_i32_446 : BitVec 32 := 0#32
  let v642 : BitVec 1 := Scalar.cmpi .slt v640 c0_i32_446
  let c0_i32_447 : BitVec 32 := 0#32
  let v643 : BitVec 1 := Scalar.cmpi .slt v639 c0_i32_447
  let v644 : BitVec 1 := Scalar.xori v642 v643
  let c0_i32_445 : BitVec 32 := 0#32
  let v641 : BitVec 1 := Scalar.cmpi .ne v640 c0_i32_445
  let v645 : BitVec 1 := Scalar.andi v644 v641
  let v646 : BitVec 32 := Scalar.addi v640 v639
  let v647 : BitVec 32 := Scalar.select v645 v646 v640
  let c1_i32_451 : BitVec 32 := 1#32
  let v649 : BitVec 32 := Scalar.muli v647 c1_i32_451
  let v650 : BitVec 32 := Scalar.addi c0_i32_452 v649
  v650.toNat
def k0_dev28 (d0 : Dev nD) : Nat :=
  let c0_i32_466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_455 : BitVec 32 := 13#32
  let v657 : BitVec 32 := Scalar.addi v2 c13_i32_455
  let c16_i32_456 : BitVec 32 := 16#32
  let c0_i32_457 : BitVec 32 := 0#32
  let v658 : BitVec 1 := Scalar.cmpi .eq c16_i32_456 c0_i32_457
  let c1_i32_458 : BitVec 32 := 1#32
  let v659 : BitVec 32 := Scalar.select v658 c1_i32_458 c16_i32_456
  let v660 : BitVec 32 := Scalar.remsi v657 v659
  let c0_i32_460 : BitVec 32 := 0#32
  let v662 : BitVec 1 := Scalar.cmpi .slt v660 c0_i32_460
  let c0_i32_461 : BitVec 32 := 0#32
  let v663 : BitVec 1 := Scalar.cmpi .slt v659 c0_i32_461
  let v664 : BitVec 1 := Scalar.xori v662 v663
  let c0_i32_459 : BitVec 32 := 0#32
  let v661 : BitVec 1 := Scalar.cmpi .ne v660 c0_i32_459
  let v665 : BitVec 1 := Scalar.andi v664 v661
  let v666 : BitVec 32 := Scalar.addi v660 v659
  let v667 : BitVec 32 := Scalar.select v665 v666 v660
  let c1_i32_465 : BitVec 32 := 1#32
  let v669 : BitVec 32 := Scalar.muli v667 c1_i32_465
  let v670 : BitVec 32 := Scalar.addi c0_i32_466 v669
  v670.toNat
def k0_dev29 (d0 : Dev nD) : Nat :=
  let c0_i32_480 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_469 : BitVec 32 := 14#32
  let v677 : BitVec 32 := Scalar.addi v2 c14_i32_469
  let c16_i32_470 : BitVec 32 := 16#32
  let c0_i32_471 : BitVec 32 := 0#32
  let v678 : BitVec 1 := Scalar.cmpi .eq c16_i32_470 c0_i32_471
  let c1_i32_472 : BitVec 32 := 1#32
  let v679 : BitVec 32 := Scalar.select v678 c1_i32_472 c16_i32_470
  let v680 : BitVec 32 := Scalar.remsi v677 v679
  let c0_i32_474 : BitVec 32 := 0#32
  let v682 : BitVec 1 := Scalar.cmpi .slt v680 c0_i32_474
  let c0_i32_475 : BitVec 32 := 0#32
  let v683 : BitVec 1 := Scalar.cmpi .slt v679 c0_i32_475
  let v684 : BitVec 1 := Scalar.xori v682 v683
  let c0_i32_473 : BitVec 32 := 0#32
  let v681 : BitVec 1 := Scalar.cmpi .ne v680 c0_i32_473
  let v685 : BitVec 1 := Scalar.andi v684 v681
  let v686 : BitVec 32 := Scalar.addi v680 v679
  let v687 : BitVec 32 := Scalar.select v685 v686 v680
  let c1_i32_479 : BitVec 32 := 1#32
  let v689 : BitVec 32 := Scalar.muli v687 c1_i32_479
  let v690 : BitVec 32 := Scalar.addi c0_i32_480 v689
  v690.toNat
def k0_dev30 (d0 : Dev nD) : Nat :=
  let c0_i32_494 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_483 : BitVec 32 := 15#32
  let v697 : BitVec 32 := Scalar.addi v2 c15_i32_483
  let c16_i32_484 : BitVec 32 := 16#32
  let c0_i32_485 : BitVec 32 := 0#32
  let v698 : BitVec 1 := Scalar.cmpi .eq c16_i32_484 c0_i32_485
  let c1_i32_486 : BitVec 32 := 1#32
  let v699 : BitVec 32 := Scalar.select v698 c1_i32_486 c16_i32_484
  let v700 : BitVec 32 := Scalar.remsi v697 v699
  let c0_i32_488 : BitVec 32 := 0#32
  let v702 : BitVec 1 := Scalar.cmpi .slt v700 c0_i32_488
  let c0_i32_489 : BitVec 32 := 0#32
  let v703 : BitVec 1 := Scalar.cmpi .slt v699 c0_i32_489
  let v704 : BitVec 1 := Scalar.xori v702 v703
  let c0_i32_487 : BitVec 32 := 0#32
  let v701 : BitVec 1 := Scalar.cmpi .ne v700 c0_i32_487
  let v705 : BitVec 1 := Scalar.andi v704 v701
  let v706 : BitVec 32 := Scalar.addi v700 v699
  let v707 : BitVec 32 := Scalar.select v705 v706 v700
  let c1_i32_493 : BitVec 32 := 1#32
  let v709 : BitVec 32 := Scalar.muli v707 c1_i32_493
  let v710 : BitVec 32 := Scalar.addi c0_i32_494 v709
  v710.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_497 : BitVec 32 := 256#32
  let v717 : BitVec 32 := Scalar.muli v2 c256_i32_497
  let v718 : Index := Scalar.indexCast v717
  let c0_498 : Index := 0#32
  ![v718.toNat, 0]
def k0_dev31 (d0 : Dev nD) : Nat :=
  let c0_i32_948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_936 : BitVec 32 := 1#32
  let v1145 : BitVec 32 := Scalar.addi v2 c1_i32_936
  let c16_i32_937 : BitVec 32 := 16#32
  let c0_i32_938 : BitVec 32 := 0#32
  let v1146 : BitVec 1 := Scalar.cmpi .eq c16_i32_937 c0_i32_938
  let c1_i32_939 : BitVec 32 := 1#32
  let v1147 : BitVec 32 := Scalar.select v1146 c1_i32_939 c16_i32_937
  let v1148 : BitVec 32 := Scalar.remsi v1145 v1147
  let c0_i32_941 : BitVec 32 := 0#32
  let v1150 : BitVec 1 := Scalar.cmpi .slt v1148 c0_i32_941
  let c0_i32_942 : BitVec 32 := 0#32
  let v1151 : BitVec 1 := Scalar.cmpi .slt v1147 c0_i32_942
  let v1152 : BitVec 1 := Scalar.xori v1150 v1151
  let c0_i32_940 : BitVec 32 := 0#32
  let v1149 : BitVec 1 := Scalar.cmpi .ne v1148 c0_i32_940
  let v1153 : BitVec 1 := Scalar.andi v1152 v1149
  let v1154 : BitVec 32 := Scalar.addi v1148 v1147
  let v1155 : BitVec 32 := Scalar.select v1153 v1154 v1148
  let c1_i32_947 : BitVec 32 := 1#32
  let v1156 : BitVec 32 := Scalar.muli v1155 c1_i32_947
  let v1157 : BitVec 32 := Scalar.addi c0_i32_948 v1156
  v1157.toNat
def k0_dev32 (d0 : Dev nD) : Nat :=
  let c0_i32_963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_951 : BitVec 32 := 2#32
  let v1166 : BitVec 32 := Scalar.addi v2 c2_i32_951
  let c16_i32_952 : BitVec 32 := 16#32
  let c0_i32_953 : BitVec 32 := 0#32
  let v1167 : BitVec 1 := Scalar.cmpi .eq c16_i32_952 c0_i32_953
  let c1_i32_954 : BitVec 32 := 1#32
  let v1168 : BitVec 32 := Scalar.select v1167 c1_i32_954 c16_i32_952
  let v1169 : BitVec 32 := Scalar.remsi v1166 v1168
  let c0_i32_956 : BitVec 32 := 0#32
  let v1171 : BitVec 1 := Scalar.cmpi .slt v1169 c0_i32_956
  let c0_i32_957 : BitVec 32 := 0#32
  let v1172 : BitVec 1 := Scalar.cmpi .slt v1168 c0_i32_957
  let v1173 : BitVec 1 := Scalar.xori v1171 v1172
  let c0_i32_955 : BitVec 32 := 0#32
  let v1170 : BitVec 1 := Scalar.cmpi .ne v1169 c0_i32_955
  let v1174 : BitVec 1 := Scalar.andi v1173 v1170
  let v1175 : BitVec 32 := Scalar.addi v1169 v1168
  let v1176 : BitVec 32 := Scalar.select v1174 v1175 v1169
  let c1_i32_962 : BitVec 32 := 1#32
  let v1177 : BitVec 32 := Scalar.muli v1176 c1_i32_962
  let v1178 : BitVec 32 := Scalar.addi c0_i32_963 v1177
  v1178.toNat
def k0_dev33 (d0 : Dev nD) : Nat :=
  let c0_i32_978 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_966 : BitVec 32 := 3#32
  let v1187 : BitVec 32 := Scalar.addi v2 c3_i32_966
  let c16_i32_967 : BitVec 32 := 16#32
  let c0_i32_968 : BitVec 32 := 0#32
  let v1188 : BitVec 1 := Scalar.cmpi .eq c16_i32_967 c0_i32_968
  let c1_i32_969 : BitVec 32 := 1#32
  let v1189 : BitVec 32 := Scalar.select v1188 c1_i32_969 c16_i32_967
  let v1190 : BitVec 32 := Scalar.remsi v1187 v1189
  let c0_i32_971 : BitVec 32 := 0#32
  let v1192 : BitVec 1 := Scalar.cmpi .slt v1190 c0_i32_971
  let c0_i32_972 : BitVec 32 := 0#32
  let v1193 : BitVec 1 := Scalar.cmpi .slt v1189 c0_i32_972
  let v1194 : BitVec 1 := Scalar.xori v1192 v1193
  let c0_i32_970 : BitVec 32 := 0#32
  let v1191 : BitVec 1 := Scalar.cmpi .ne v1190 c0_i32_970
  let v1195 : BitVec 1 := Scalar.andi v1194 v1191
  let v1196 : BitVec 32 := Scalar.addi v1190 v1189
  let v1197 : BitVec 32 := Scalar.select v1195 v1196 v1190
  let c1_i32_977 : BitVec 32 := 1#32
  let v1198 : BitVec 32 := Scalar.muli v1197 c1_i32_977
  let v1199 : BitVec 32 := Scalar.addi c0_i32_978 v1198
  v1199.toNat
def k0_dev34 (d0 : Dev nD) : Nat :=
  let c0_i32_993 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_981 : BitVec 32 := 4#32
  let v1208 : BitVec 32 := Scalar.addi v2 c4_i32_981
  let c16_i32_982 : BitVec 32 := 16#32
  let c0_i32_983 : BitVec 32 := 0#32
  let v1209 : BitVec 1 := Scalar.cmpi .eq c16_i32_982 c0_i32_983
  let c1_i32_984 : BitVec 32 := 1#32
  let v1210 : BitVec 32 := Scalar.select v1209 c1_i32_984 c16_i32_982
  let v1211 : BitVec 32 := Scalar.remsi v1208 v1210
  let c0_i32_986 : BitVec 32 := 0#32
  let v1213 : BitVec 1 := Scalar.cmpi .slt v1211 c0_i32_986
  let c0_i32_987 : BitVec 32 := 0#32
  let v1214 : BitVec 1 := Scalar.cmpi .slt v1210 c0_i32_987
  let v1215 : BitVec 1 := Scalar.xori v1213 v1214
  let c0_i32_985 : BitVec 32 := 0#32
  let v1212 : BitVec 1 := Scalar.cmpi .ne v1211 c0_i32_985
  let v1216 : BitVec 1 := Scalar.andi v1215 v1212
  let v1217 : BitVec 32 := Scalar.addi v1211 v1210
  let v1218 : BitVec 32 := Scalar.select v1216 v1217 v1211
  let c1_i32_992 : BitVec 32 := 1#32
  let v1219 : BitVec 32 := Scalar.muli v1218 c1_i32_992
  let v1220 : BitVec 32 := Scalar.addi c0_i32_993 v1219
  v1220.toNat
def k0_dev35 (d0 : Dev nD) : Nat :=
  let c0_i32_1008 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_996 : BitVec 32 := 5#32
  let v1229 : BitVec 32 := Scalar.addi v2 c5_i32_996
  let c16_i32_997 : BitVec 32 := 16#32
  let c0_i32_998 : BitVec 32 := 0#32
  let v1230 : BitVec 1 := Scalar.cmpi .eq c16_i32_997 c0_i32_998
  let c1_i32_999 : BitVec 32 := 1#32
  let v1231 : BitVec 32 := Scalar.select v1230 c1_i32_999 c16_i32_997
  let v1232 : BitVec 32 := Scalar.remsi v1229 v1231
  let c0_i32_1001 : BitVec 32 := 0#32
  let v1234 : BitVec 1 := Scalar.cmpi .slt v1232 c0_i32_1001
  let c0_i32_1002 : BitVec 32 := 0#32
  let v1235 : BitVec 1 := Scalar.cmpi .slt v1231 c0_i32_1002
  let v1236 : BitVec 1 := Scalar.xori v1234 v1235
  let c0_i32_1000 : BitVec 32 := 0#32
  let v1233 : BitVec 1 := Scalar.cmpi .ne v1232 c0_i32_1000
  let v1237 : BitVec 1 := Scalar.andi v1236 v1233
  let v1238 : BitVec 32 := Scalar.addi v1232 v1231
  let v1239 : BitVec 32 := Scalar.select v1237 v1238 v1232
  let c1_i32_1007 : BitVec 32 := 1#32
  let v1240 : BitVec 32 := Scalar.muli v1239 c1_i32_1007
  let v1241 : BitVec 32 := Scalar.addi c0_i32_1008 v1240
  v1241.toNat
def k0_dev36 (d0 : Dev nD) : Nat :=
  let c0_i32_1023 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1011 : BitVec 32 := 6#32
  let v1250 : BitVec 32 := Scalar.addi v2 c6_i32_1011
  let c16_i32_1012 : BitVec 32 := 16#32
  let c0_i32_1013 : BitVec 32 := 0#32
  let v1251 : BitVec 1 := Scalar.cmpi .eq c16_i32_1012 c0_i32_1013
  let c1_i32_1014 : BitVec 32 := 1#32
  let v1252 : BitVec 32 := Scalar.select v1251 c1_i32_1014 c16_i32_1012
  let v1253 : BitVec 32 := Scalar.remsi v1250 v1252
  let c0_i32_1016 : BitVec 32 := 0#32
  let v1255 : BitVec 1 := Scalar.cmpi .slt v1253 c0_i32_1016
  let c0_i32_1017 : BitVec 32 := 0#32
  let v1256 : BitVec 1 := Scalar.cmpi .slt v1252 c0_i32_1017
  let v1257 : BitVec 1 := Scalar.xori v1255 v1256
  let c0_i32_1015 : BitVec 32 := 0#32
  let v1254 : BitVec 1 := Scalar.cmpi .ne v1253 c0_i32_1015
  let v1258 : BitVec 1 := Scalar.andi v1257 v1254
  let v1259 : BitVec 32 := Scalar.addi v1253 v1252
  let v1260 : BitVec 32 := Scalar.select v1258 v1259 v1253
  let c1_i32_1022 : BitVec 32 := 1#32
  let v1261 : BitVec 32 := Scalar.muli v1260 c1_i32_1022
  let v1262 : BitVec 32 := Scalar.addi c0_i32_1023 v1261
  v1262.toNat
def k0_dev37 (d0 : Dev nD) : Nat :=
  let c0_i32_1038 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1026 : BitVec 32 := 7#32
  let v1271 : BitVec 32 := Scalar.addi v2 c7_i32_1026
  let c16_i32_1027 : BitVec 32 := 16#32
  let c0_i32_1028 : BitVec 32 := 0#32
  let v1272 : BitVec 1 := Scalar.cmpi .eq c16_i32_1027 c0_i32_1028
  let c1_i32_1029 : BitVec 32 := 1#32
  let v1273 : BitVec 32 := Scalar.select v1272 c1_i32_1029 c16_i32_1027
  let v1274 : BitVec 32 := Scalar.remsi v1271 v1273
  let c0_i32_1031 : BitVec 32 := 0#32
  let v1276 : BitVec 1 := Scalar.cmpi .slt v1274 c0_i32_1031
  let c0_i32_1032 : BitVec 32 := 0#32
  let v1277 : BitVec 1 := Scalar.cmpi .slt v1273 c0_i32_1032
  let v1278 : BitVec 1 := Scalar.xori v1276 v1277
  let c0_i32_1030 : BitVec 32 := 0#32
  let v1275 : BitVec 1 := Scalar.cmpi .ne v1274 c0_i32_1030
  let v1279 : BitVec 1 := Scalar.andi v1278 v1275
  let v1280 : BitVec 32 := Scalar.addi v1274 v1273
  let v1281 : BitVec 32 := Scalar.select v1279 v1280 v1274
  let c1_i32_1037 : BitVec 32 := 1#32
  let v1282 : BitVec 32 := Scalar.muli v1281 c1_i32_1037
  let v1283 : BitVec 32 := Scalar.addi c0_i32_1038 v1282
  v1283.toNat
def k0_dev38 (d0 : Dev nD) : Nat :=
  let c0_i32_1053 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1041 : BitVec 32 := 8#32
  let v1292 : BitVec 32 := Scalar.addi v2 c8_i32_1041
  let c16_i32_1042 : BitVec 32 := 16#32
  let c0_i32_1043 : BitVec 32 := 0#32
  let v1293 : BitVec 1 := Scalar.cmpi .eq c16_i32_1042 c0_i32_1043
  let c1_i32_1044 : BitVec 32 := 1#32
  let v1294 : BitVec 32 := Scalar.select v1293 c1_i32_1044 c16_i32_1042
  let v1295 : BitVec 32 := Scalar.remsi v1292 v1294
  let c0_i32_1046 : BitVec 32 := 0#32
  let v1297 : BitVec 1 := Scalar.cmpi .slt v1295 c0_i32_1046
  let c0_i32_1047 : BitVec 32 := 0#32
  let v1298 : BitVec 1 := Scalar.cmpi .slt v1294 c0_i32_1047
  let v1299 : BitVec 1 := Scalar.xori v1297 v1298
  let c0_i32_1045 : BitVec 32 := 0#32
  let v1296 : BitVec 1 := Scalar.cmpi .ne v1295 c0_i32_1045
  let v1300 : BitVec 1 := Scalar.andi v1299 v1296
  let v1301 : BitVec 32 := Scalar.addi v1295 v1294
  let v1302 : BitVec 32 := Scalar.select v1300 v1301 v1295
  let c1_i32_1052 : BitVec 32 := 1#32
  let v1303 : BitVec 32 := Scalar.muli v1302 c1_i32_1052
  let v1304 : BitVec 32 := Scalar.addi c0_i32_1053 v1303
  v1304.toNat
def k0_dev39 (d0 : Dev nD) : Nat :=
  let c0_i32_1068 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1056 : BitVec 32 := 9#32
  let v1313 : BitVec 32 := Scalar.addi v2 c9_i32_1056
  let c16_i32_1057 : BitVec 32 := 16#32
  let c0_i32_1058 : BitVec 32 := 0#32
  let v1314 : BitVec 1 := Scalar.cmpi .eq c16_i32_1057 c0_i32_1058
  let c1_i32_1059 : BitVec 32 := 1#32
  let v1315 : BitVec 32 := Scalar.select v1314 c1_i32_1059 c16_i32_1057
  let v1316 : BitVec 32 := Scalar.remsi v1313 v1315
  let c0_i32_1061 : BitVec 32 := 0#32
  let v1318 : BitVec 1 := Scalar.cmpi .slt v1316 c0_i32_1061
  let c0_i32_1062 : BitVec 32 := 0#32
  let v1319 : BitVec 1 := Scalar.cmpi .slt v1315 c0_i32_1062
  let v1320 : BitVec 1 := Scalar.xori v1318 v1319
  let c0_i32_1060 : BitVec 32 := 0#32
  let v1317 : BitVec 1 := Scalar.cmpi .ne v1316 c0_i32_1060
  let v1321 : BitVec 1 := Scalar.andi v1320 v1317
  let v1322 : BitVec 32 := Scalar.addi v1316 v1315
  let v1323 : BitVec 32 := Scalar.select v1321 v1322 v1316
  let c1_i32_1067 : BitVec 32 := 1#32
  let v1324 : BitVec 32 := Scalar.muli v1323 c1_i32_1067
  let v1325 : BitVec 32 := Scalar.addi c0_i32_1068 v1324
  v1325.toNat
def k0_dev40 (d0 : Dev nD) : Nat :=
  let c0_i32_1083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1071 : BitVec 32 := 10#32
  let v1334 : BitVec 32 := Scalar.addi v2 c10_i32_1071
  let c16_i32_1072 : BitVec 32 := 16#32
  let c0_i32_1073 : BitVec 32 := 0#32
  let v1335 : BitVec 1 := Scalar.cmpi .eq c16_i32_1072 c0_i32_1073
  let c1_i32_1074 : BitVec 32 := 1#32
  let v1336 : BitVec 32 := Scalar.select v1335 c1_i32_1074 c16_i32_1072
  let v1337 : BitVec 32 := Scalar.remsi v1334 v1336
  let c0_i32_1076 : BitVec 32 := 0#32
  let v1339 : BitVec 1 := Scalar.cmpi .slt v1337 c0_i32_1076
  let c0_i32_1077 : BitVec 32 := 0#32
  let v1340 : BitVec 1 := Scalar.cmpi .slt v1336 c0_i32_1077
  let v1341 : BitVec 1 := Scalar.xori v1339 v1340
  let c0_i32_1075 : BitVec 32 := 0#32
  let v1338 : BitVec 1 := Scalar.cmpi .ne v1337 c0_i32_1075
  let v1342 : BitVec 1 := Scalar.andi v1341 v1338
  let v1343 : BitVec 32 := Scalar.addi v1337 v1336
  let v1344 : BitVec 32 := Scalar.select v1342 v1343 v1337
  let c1_i32_1082 : BitVec 32 := 1#32
  let v1345 : BitVec 32 := Scalar.muli v1344 c1_i32_1082
  let v1346 : BitVec 32 := Scalar.addi c0_i32_1083 v1345
  v1346.toNat
def k0_dev41 (d0 : Dev nD) : Nat :=
  let c0_i32_1098 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1086 : BitVec 32 := 11#32
  let v1355 : BitVec 32 := Scalar.addi v2 c11_i32_1086
  let c16_i32_1087 : BitVec 32 := 16#32
  let c0_i32_1088 : BitVec 32 := 0#32
  let v1356 : BitVec 1 := Scalar.cmpi .eq c16_i32_1087 c0_i32_1088
  let c1_i32_1089 : BitVec 32 := 1#32
  let v1357 : BitVec 32 := Scalar.select v1356 c1_i32_1089 c16_i32_1087
  let v1358 : BitVec 32 := Scalar.remsi v1355 v1357
  let c0_i32_1091 : BitVec 32 := 0#32
  let v1360 : BitVec 1 := Scalar.cmpi .slt v1358 c0_i32_1091
  let c0_i32_1092 : BitVec 32 := 0#32
  let v1361 : BitVec 1 := Scalar.cmpi .slt v1357 c0_i32_1092
  let v1362 : BitVec 1 := Scalar.xori v1360 v1361
  let c0_i32_1090 : BitVec 32 := 0#32
  let v1359 : BitVec 1 := Scalar.cmpi .ne v1358 c0_i32_1090
  let v1363 : BitVec 1 := Scalar.andi v1362 v1359
  let v1364 : BitVec 32 := Scalar.addi v1358 v1357
  let v1365 : BitVec 32 := Scalar.select v1363 v1364 v1358
  let c1_i32_1097 : BitVec 32 := 1#32
  let v1366 : BitVec 32 := Scalar.muli v1365 c1_i32_1097
  let v1367 : BitVec 32 := Scalar.addi c0_i32_1098 v1366
  v1367.toNat
def k0_dev42 (d0 : Dev nD) : Nat :=
  let c0_i32_1113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1101 : BitVec 32 := 12#32
  let v1376 : BitVec 32 := Scalar.addi v2 c12_i32_1101
  let c16_i32_1102 : BitVec 32 := 16#32
  let c0_i32_1103 : BitVec 32 := 0#32
  let v1377 : BitVec 1 := Scalar.cmpi .eq c16_i32_1102 c0_i32_1103
  let c1_i32_1104 : BitVec 32 := 1#32
  let v1378 : BitVec 32 := Scalar.select v1377 c1_i32_1104 c16_i32_1102
  let v1379 : BitVec 32 := Scalar.remsi v1376 v1378
  let c0_i32_1106 : BitVec 32 := 0#32
  let v1381 : BitVec 1 := Scalar.cmpi .slt v1379 c0_i32_1106
  let c0_i32_1107 : BitVec 32 := 0#32
  let v1382 : BitVec 1 := Scalar.cmpi .slt v1378 c0_i32_1107
  let v1383 : BitVec 1 := Scalar.xori v1381 v1382
  let c0_i32_1105 : BitVec 32 := 0#32
  let v1380 : BitVec 1 := Scalar.cmpi .ne v1379 c0_i32_1105
  let v1384 : BitVec 1 := Scalar.andi v1383 v1380
  let v1385 : BitVec 32 := Scalar.addi v1379 v1378
  let v1386 : BitVec 32 := Scalar.select v1384 v1385 v1379
  let c1_i32_1112 : BitVec 32 := 1#32
  let v1387 : BitVec 32 := Scalar.muli v1386 c1_i32_1112
  let v1388 : BitVec 32 := Scalar.addi c0_i32_1113 v1387
  v1388.toNat
def k0_dev43 (d0 : Dev nD) : Nat :=
  let c0_i32_1128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1116 : BitVec 32 := 13#32
  let v1397 : BitVec 32 := Scalar.addi v2 c13_i32_1116
  let c16_i32_1117 : BitVec 32 := 16#32
  let c0_i32_1118 : BitVec 32 := 0#32
  let v1398 : BitVec 1 := Scalar.cmpi .eq c16_i32_1117 c0_i32_1118
  let c1_i32_1119 : BitVec 32 := 1#32
  let v1399 : BitVec 32 := Scalar.select v1398 c1_i32_1119 c16_i32_1117
  let v1400 : BitVec 32 := Scalar.remsi v1397 v1399
  let c0_i32_1121 : BitVec 32 := 0#32
  let v1402 : BitVec 1 := Scalar.cmpi .slt v1400 c0_i32_1121
  let c0_i32_1122 : BitVec 32 := 0#32
  let v1403 : BitVec 1 := Scalar.cmpi .slt v1399 c0_i32_1122
  let v1404 : BitVec 1 := Scalar.xori v1402 v1403
  let c0_i32_1120 : BitVec 32 := 0#32
  let v1401 : BitVec 1 := Scalar.cmpi .ne v1400 c0_i32_1120
  let v1405 : BitVec 1 := Scalar.andi v1404 v1401
  let v1406 : BitVec 32 := Scalar.addi v1400 v1399
  let v1407 : BitVec 32 := Scalar.select v1405 v1406 v1400
  let c1_i32_1127 : BitVec 32 := 1#32
  let v1408 : BitVec 32 := Scalar.muli v1407 c1_i32_1127
  let v1409 : BitVec 32 := Scalar.addi c0_i32_1128 v1408
  v1409.toNat
def k0_dev44 (d0 : Dev nD) : Nat :=
  let c0_i32_1143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1131 : BitVec 32 := 14#32
  let v1418 : BitVec 32 := Scalar.addi v2 c14_i32_1131
  let c16_i32_1132 : BitVec 32 := 16#32
  let c0_i32_1133 : BitVec 32 := 0#32
  let v1419 : BitVec 1 := Scalar.cmpi .eq c16_i32_1132 c0_i32_1133
  let c1_i32_1134 : BitVec 32 := 1#32
  let v1420 : BitVec 32 := Scalar.select v1419 c1_i32_1134 c16_i32_1132
  let v1421 : BitVec 32 := Scalar.remsi v1418 v1420
  let c0_i32_1136 : BitVec 32 := 0#32
  let v1423 : BitVec 1 := Scalar.cmpi .slt v1421 c0_i32_1136
  let c0_i32_1137 : BitVec 32 := 0#32
  let v1424 : BitVec 1 := Scalar.cmpi .slt v1420 c0_i32_1137
  let v1425 : BitVec 1 := Scalar.xori v1423 v1424
  let c0_i32_1135 : BitVec 32 := 0#32
  let v1422 : BitVec 1 := Scalar.cmpi .ne v1421 c0_i32_1135
  let v1426 : BitVec 1 := Scalar.andi v1425 v1422
  let v1427 : BitVec 32 := Scalar.addi v1421 v1420
  let v1428 : BitVec 32 := Scalar.select v1426 v1427 v1421
  let c1_i32_1142 : BitVec 32 := 1#32
  let v1429 : BitVec 32 := Scalar.muli v1428 c1_i32_1142
  let v1430 : BitVec 32 := Scalar.addi c0_i32_1143 v1429
  v1430.toNat
def k0_dev45 (d0 : Dev nD) : Nat :=
  let c0_i32_1158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1146 : BitVec 32 := 15#32
  let v1439 : BitVec 32 := Scalar.addi v2 c15_i32_1146
  let c16_i32_1147 : BitVec 32 := 16#32
  let c0_i32_1148 : BitVec 32 := 0#32
  let v1440 : BitVec 1 := Scalar.cmpi .eq c16_i32_1147 c0_i32_1148
  let c1_i32_1149 : BitVec 32 := 1#32
  let v1441 : BitVec 32 := Scalar.select v1440 c1_i32_1149 c16_i32_1147
  let v1442 : BitVec 32 := Scalar.remsi v1439 v1441
  let c0_i32_1151 : BitVec 32 := 0#32
  let v1444 : BitVec 1 := Scalar.cmpi .slt v1442 c0_i32_1151
  let c0_i32_1152 : BitVec 32 := 0#32
  let v1445 : BitVec 1 := Scalar.cmpi .slt v1441 c0_i32_1152
  let v1446 : BitVec 1 := Scalar.xori v1444 v1445
  let c0_i32_1150 : BitVec 32 := 0#32
  let v1443 : BitVec 1 := Scalar.cmpi .ne v1442 c0_i32_1150
  let v1447 : BitVec 1 := Scalar.andi v1446 v1443
  let v1448 : BitVec 32 := Scalar.addi v1442 v1441
  let v1449 : BitVec 32 := Scalar.select v1447 v1448 v1442
  let c1_i32_1157 : BitVec 32 := 1#32
  let v1450 : BitVec 32 := Scalar.muli v1449 c1_i32_1157
  let v1451 : BitVec 32 := Scalar.addi c0_i32_1158 v1450
  v1451.toNat
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.Program.lean ====
/-
  The kernel's body as a short program of loops.

  The printed body is one straight line of about three hundred memory operations. Here it is written again as it
  was meant: fifteen barrier signals, the conversion of the device's block of `x`, the stream of row blocks of
  `w`, fifteen transfers to the other devices, four products, fifteen transfers of the local maximum, and the
  quantisation. `body_eq` says that the printed body IS this program (after it has read the device's number), by
  unfolding alone. Everything is stated over any float values `F`.
-/
module

public import proofs.«01_k».proof.Proof.Gen.KernelIdeal.Skeleton
public import proofs.«01_k».proof.Proof.Gen.KernelIdeal.Frame

@[expose] public section

set_option maxRecDepth 16384

noncomputable section

namespace Cert.KernelIdeal.Claims

open Cert.KernelIdeal Cert.KernelIdeal.Gen
open Idealize.ShloMosaic Idealize.ShloMosaic.TcCoe
open Idealize.SL Idealize.SL.Sem

variable {F : FTy → Type} [FloatOps F]

/-! ## The memrefs -/

abbrev xM : Memref sig .tc .vmem S4096x256 .f32 := Memref.whole cc0_stg0_0
abbrev wM : Memref sig .tc .hbm S4096x2048 .f32 := Memref.whole main_arg1
abbrev outM : Memref sig .tc .vmem S256x2048 .f32 := Memref.whole cc0_stg1_0
abbrev xbM : Memref sig .tc .vmem S4096x256 .bf16 := Memref.whole cc0_scratch0
abbrev xgM : Memref sig .tc .vmem S256x4096 .bf16 := Memref.whole cc0_scratch1
abbrev wsM : Memref sig .tc .vmem S4x256x2048 .f32 := Memref.whole cc0_scratch2
abbrev wbM : Memref sig .tc .vmem S4096x2048 .bf16 := Memref.whole cc0_scratch3
abbrev amM : Memref sig .tc .vmem S16x128 .f32 := Memref.whole cc0_scratch4

/-- The barrier semaphore. -/
abbrev barS : Sem sig := (SemArray.scalar (sig.barrier 0 rfl) : Sems sig S_).sem

theorem inbSem (d : Fin 16) : ∀ a, (![d.val] : Fin 1 → Nat) a + S1.size a ≤ S16.size a := by revert d; decide

/-- Entry `d` of a semaphore array of sixteen. -/
abbrev semAt (s : DmaSems sig S16) (d : Fin 16) : DmaSem sig :=
  ((s.slice (Rect.unit (s := S16) ![d.val] S1.size (inbSem d))).squeeze S_ Gen.squeezes_S1_S_).sem

/-! ## The device addressed at distance `d` -/

/-- The number of the device at distance `w` after device `d0`, by the integer operations the kernel computes it with. -/
def ringDev (w : BitVec 32) (d0 : Dev nD) : Nat :=
  let v2 : BitVec 32 := Scalar.remsi (Scalar.divsi (Dev.word d0) 1#32) 16#32
  let v6 : BitVec 32 := Scalar.select (Scalar.cmpi .eq 16#32 0#32) 1#32 16#32
  let v7 : BitVec 32 := Scalar.remsi (Scalar.addi v2 w) v6
  let v11 : BitVec 1 := Scalar.xori (Scalar.cmpi .slt v7 0#32) (Scalar.cmpi .slt v6 0#32)
  let v12 : BitVec 1 := Scalar.andi v11 (Scalar.cmpi .ne v7 0#32)
  let v14 : BitVec 32 := Scalar.select v12 (Scalar.addi v7 v6) v7
  (Scalar.addi 0#32 (Scalar.muli v14 1#32)).toNat

/-- It is the device `d` places further round the ring. -/
theorem ringDev_eq : ∀ (d : Fin 16) (c : Dev nD), ringDev (BitVec.ofNat 32 d.val) c = (c.val + d.val) % 16 := by decide +kernel

theorem ringDev_lt (d : Fin 16) (c : Dev nD) : ringDev (BitVec.ofNat 32 d.val) c < nD := by
  rw [ringDev_eq]; exact Nat.mod_lt _ (by decide)

/-- The device `d` places further round the ring. -/
def tgt (c : Dev nD) (d : Fin 16) : Dev nD := ⟨ringDev (BitVec.ofNat 32 d.val) c, ringDev_lt d c⟩

/-! ## The regions -/

/-- The rows of `w` that the `d`-th local copy reads start at `256 * ((c - d) mod 16)`. -/
theorem off1_eq : ∀ (d : Fin 16) (c : Dev nD), k0_off1 c (BitVec.ofNat 32 d.val) = ![256 * ((c.val + (16 - d.val)) % 16), 0] := by
  decide +kernel

/-- The rows of the converted block that go to the device at distance `d` start at `256 * ((c + d) mod 16)`. -/
theorem off2_eq : ∀ (d : Fin 16) (c : Dev nD), k0_off2 c (BitVec.ofNat 32 d.val) = ![256 * ((c.val + d.val) % 16), 0] := by
  decide +kernel

theorem inbW (d : Fin 16) (c : Dev nD) : ∀ a, (k0_off1 c (BitVec.ofNat 32 d.val)) a + S256x2048.size a ≤ S4096x2048.size a :=
  Gen.k0_off1_inb c d

theorem inbXb (d : Fin 16) (c : Dev nD) : ∀ a, (k0_off2 c (BitVec.ofNat 32 d.val)) a + S256x256.size a ≤ S4096x256.size a := by
  revert d c; decide +kernel

theorem inbXg (d : Fin 16) : ∀ a, (![0, 256 * d.val] : Fin 2 → Nat) a + S256x256.size a ≤ S256x4096.size a := by revert d; decide

theorem inbWs (d : Fin 16) : ∀ a, (![d.val % 4, 0, 0] : Fin 3 → Nat) a + S1x256x2048.size a ≤ S4x256x2048.size a := by revert d; decide

theorem inbWb (d : Fin 16) : ∀ a, (![256 * d.val, 0] : Fin 2 → Nat) a + S256x2048.size a ≤ S4096x2048.size a := by revert d; decide

theorem inbAm (d : Fin 16) : ∀ a, (![d.val, 0] : Fin 2 → Nat) a + S1x128.size a ≤ S16x128.size a := by revert d; decide

theorem inbXgG (g : Fin 4) : ∀ a, (![0, 1024 * g.val] : Fin 2 → Nat) a + S256x1024.size a ≤ S256x4096.size a := by revert g; decide

theorem inbWbG (g : Fin 4) : ∀ a, (![1024 * g.val, 0] : Fin 2 → Nat) a + S1024x2048.size a ≤ S4096x2048.size a := by revert g; decide

abbrev rW (c : Dev nD) (d : Fin 16) := Rect.unit (s := S4096x2048) (k0_off1 c (BitVec.ofNat 32 d.val)) S256x2048.size (inbW d c)
abbrev rXb (c : Dev nD) (d : Fin 16) := Rect.unit (s := S4096x256) (k0_off2 c (BitVec.ofNat 32 d.val)) S256x256.size (inbXb d c)
abbrev rXbOwn (c : Dev nD) := Rect.unit (s := S4096x256) (k0_off3 c) S256x256.size (Gen.k0_off3_inb c)
abbrev rXg (d : Fin 16) := Rect.unit (s := S256x4096) ![0, 256 * d.val] S256x256.size (inbXg d)
abbrev rWs (d : Fin 16) := Rect.unit (s := S4x256x2048) ![d.val % 4, 0, 0] S1x256x2048.size (inbWs d)
abbrev rWb (d : Fin 16) := Rect.unit (s := S4096x2048) ![256 * d.val, 0] S256x2048.size (inbWb d)
abbrev rAm (d : Fin 16) := Rect.unit (s := S16x128) ![d.val, 0] S1x128.size (inbAm d)
abbrev rXgG (g : Fin 4) := Rect.unit (s := S256x4096) ![0, 1024 * g.val] S256x1024.size (inbXgG g)
abbrev rWbG (g : Fin 4) := Rect.unit (s := S4096x2048) ![1024 * g.val, 0] S1024x2048.size (inbWbG g)
abbrev rX := Rect.unit (s := S4096x256) ![0, 0] S4096x256.size Gen.inb_S4096x256_S4096x256_0_0
abbrev rOut := Rect.unit (s := S256x2048) ![0, 0] S256x2048.size Gen.inb_S256x2048_S256x2048_0_0
abbrev rAmAll := Rect.unit (s := S16x128) ![0, 0] S16x128.size Gen.inb_S16x128_S16x128_0_0

abbrev wSl (c : Dev nD) (d : Fin 16) : Memref sig .tc .hbm S256x2048 .f32 := wM.slice (rW c d) (fun _ => rfl)
abbrev wsSl (d : Fin 16) : Memref sig .tc .vmem S256x2048 .f32 :=
  (wsM.slice (rWs d) (fun _ => rfl)).squeeze S256x2048 Gen.squeezes_S1x256x2048_S256x2048
abbrev xbSl (c : Dev nD) (d : Fin 16) : Memref sig .tc .vmem S256x256 .bf16 := xbM.slice (rXb c d) (fun _ => rfl)
abbrev xgSl (d : Fin 16) : Memref sig .tc .vmem S256x256 .bf16 := xgM.slice (rXg d) (fun _ => rfl)
abbrev amSl (d : Fin 16) : Memref sig .tc .vmem S128 .f32 :=
  (amM.slice (rAm d) (fun _ => rfl)).squeeze S128 Gen.squeezes_S1x128_S128

/-! ## The side conditions of the transfers and stores -/

theorem wordsXb (d : Fin 16) (c : Dev nD) : (rXb c d).WholeWords (EltTy.packing .bf16) := by revert d c; decide +kernel
theorem wordsXg (d : Fin 16) : (rXg d).WholeWords (EltTy.packing .bf16) := by revert d; decide +kernel
theorem packedXg : (rXg 0).PackedRows (EltTy.packing .bf16) := by decide +kernel
theorem packedWb (d : Fin 16) : (rWb d).PackedRows (EltTy.packing .bf16) := by revert d; decide +kernel

/-! ## The program -/

/-- Do `f` at each index of a list, in turn. -/
def each {A : Type} (f : A → Prog (TpuEff nD τ sig (Elt F) Λ₀ .tc) PUnit) : List A → Prog (TpuEff nD τ sig (Elt F) Λ₀ .tc) PUnit
  | [] => pure ⟨⟩
  | d :: ds => f d >>= fun _ => each f ds

/-- The distances to the other devices. -/
abbrev others : List (Fin 16) := [1, 2, 3, 4, 5, 6, 7, 8, 9, 10, 11, 12, 13, 14, 15]

/-- Signal the barrier of the device at distance `d`. -/
def sigStep (c : Dev nD) (d : Fin 16) : Prog (TpuEff nD τ sig (Elt F) Λ₀ .tc) PUnit :=
  semSignalWord (tgt c d) barS 1#32

/-- Convert the device's block of `x`. -/
def castX : Prog (TpuEff nD τ sig (Elt F) Λ₀ .tc) PUnit := do
  let v : Vec F S4096x256 .f32 ← Prog.lift (.load xM rX.toLoadRect (View.loadsAt_vmem Gen.h_S4096x256))
  let _ : Vec F S4096x256 .bf16 ← Prog.lift (.load xbM rX.toLoadRect (View.loadsAt_vmem Gen.h_S4096x256))
  Prog.lift (.store xbM rX (k0_pay1 v) Finset.univ (View.stores_vmem Gen.h_S4096x256 ((Memref.isWhole_whole _).storeExact_slice rfl _ Gen.packedbf16_S4096x256_S4096x256_0_0) (fun _ => rfl)) (.inl rfl))

/-- Start the local copy of the `d`-th block of rows of `w` into its slot. -/
def wStart (c : Dev nD) (d : Fin 16) : Prog (TpuEff nD τ sig (Elt F) Λ₀ .tc) PUnit :=
  Prog.lift (.enqueueDma (wSl c d) (.here (wsSl d)) (.dma (semAt cc0_scratch9 d)) (View.wordExact_bits rfl) ((View.wordExact_bits rfl).reshape _ _) ⟨Or.inl rfl, trivial⟩)

/-- Wait for the fifteen signals of the others. -/
def barWait : Prog (TpuEff nD τ sig (Elt F) Λ₀ .tc) PUnit := semWaitWord barS 15#32

/-- Send the block of rows the device at distance `d` needs. -/
def sendStep (c : Dev nD) (d : Fin 16) : Prog (TpuEff nD τ sig (Elt F) Λ₀ .tc) PUnit :=
  Prog.lift (.enqueueDma (xbSl c d) (.remote (Dev.tc (tgt c d)) (xgSl d) (.dma (semAt cc0_scratch5 d))) (.dma (semAt cc0_scratch6 d)) ((Memref.isWhole_whole _).wordExact_slice rfl _ (wordsXb d c)) ((Memref.isWhole_whole _).wordExact_slice rfl _ (wordsXg d)) ⟨⟨rfl, Or.inl rfl⟩, trivial⟩)

/-- Copy the device's own block of rows to the gathered matrix. -/
def copyOwn (c : Dev nD) : Prog (TpuEff nD τ sig (Elt F) Λ₀ .tc) PUnit := do
  let v : Vec F S256x256 .bf16 ← Prog.lift (.load xbM (rXbOwn c).toLoadRect (View.loadsAt_vmem Gen.h_S256x256))
  let _ : Vec F S256x256 .bf16 ← Prog.lift (.load xgM (rXg 0).toLoadRect (View.loadsAt_vmem Gen.h_S256x256))
  Prog.lift (.store xgM (rXg 0) (k0_pay2 v) Finset.univ (View.stores_vmem Gen.h_S256x256 ((Memref.isWhole_whole _).storeExact_slice rfl _ packedXg) (fun _ => rfl)) (.inl rfl))

/-- Wait for the `d`-th block of rows of `w` and convert it. -/
def wTake (c : Dev nD) (d : Fin 16) : Prog (TpuEff nD τ sig (Elt F) Λ₀ .tc) PUnit := do
  Prog.lift (.waitDma2 (semAt cc0_scratch9 d) (wSl c d) (wsSl d) (View.wordExact_bits rfl) ((View.wordExact_bits rfl).reshape _ _))
  let v : Vec F S1x256x2048 .f32 ← Prog.lift (.load wsM (rWs d).toLoadRect (View.loadsAt_vmem Gen.h_S1x256x2048))
  let _ : Vec F S256x2048 .bf16 ← Prog.lift (.load wbM (rWb d).toLoadRect (View.loadsAt_vmem Gen.h_S256x2048))
  Prog.lift (.store wbM (rWb d) (k0_pay3 v) Finset.univ (View.stores_vmem Gen.h_S256x2048 ((Memref.isWhole_whole _).storeExact_slice rfl _ (packedWb d)) (fun _ => rfl)) (.inl rfl))

/-- Take the `d`-th block of rows of `w` and start the block four places on, in the slot it leaves. -/
def wNext (c : Dev nD) (d : Fin 16) : Prog (TpuEff nD τ sig (Elt F) Λ₀ .tc) PUnit :=
  wTake c d >>= fun _ => wStart c (d + 4)

/-- Wait until the block sent at distance `d` has left and the block from distance `d` has come. -/
def recvStep (c : Dev nD) (d : Fin 16) : Prog (TpuEff nD τ sig (Elt F) Λ₀ .tc) PUnit := do
  Prog.lift (.waitDma2 (semAt cc0_scratch5 d) (xgSl d) (xbSl c d) ((Memref.isWhole_whole _).wordExact_slice rfl _ (wordsXg d)) ((Memref.isWhole_whole _).wordExact_slice rfl _ (wordsXb d c)))
  Prog.lift (.waitDma2 (semAt cc0_scratch6 d) (xbSl c d) (xgSl d) ((Memref.isWhole_whole _).wordExact_slice rfl _ (wordsXb d c)) ((Memref.isWhole_whole _).wordExact_slice rfl _ (wordsXg d)))

/-- The product over the first quarter of the inner dimension. -/
def dotFirst : Prog (TpuEff nD τ sig (Elt F) Λ₀ .tc) PUnit := do
  let a : Vec F S256x1024 .bf16 ← Prog.lift (.load xgM (rXgG 0).toLoadRect (View.loadsAt_vmem Gen.h_S256x1024))
  let b : Vec F S1024x2048 .bf16 ← Prog.lift (.load wbM (rWbG 0).toLoadRect (View.loadsAt_vmem Gen.h_S1024x2048))
  let _ : Vec F S256x2048 .f32 ← Prog.lift (.load outM rOut.toLoadRect (View.loadsAt_vmem Gen.h_S256x2048))
  Prog.lift (.store outM rOut (k0_pay21 a b) Finset.univ (View.stores_vmem_bits_univ Gen.h_S256x2048 rfl) (.inl rfl))

/-- Add the product over a later quarter of the inner dimension. -/
def dotAdd (g : Fin 4) : Prog (TpuEff nD τ sig (Elt F) Λ₀ .tc) PUnit := do
  let a : Vec F S256x1024 .bf16 ← Prog.lift (.load xgM (rXgG g).toLoadRect (View.loadsAt_vmem Gen.h_S256x1024))
  let b : Vec F S1024x2048 .bf16 ← Prog.lift (.load wbM (rWbG g).toLoadRect (View.loadsAt_vmem Gen.h_S1024x2048))
  let o : Vec F S256x2048 .f32 ← Prog.lift (.load outM rOut.toLoadRect (View.loadsAt_vmem Gen.h_S256x2048))
  let _ : Vec F S256x2048 .f32 ← Prog.lift (.load outM rOut.toLoadRect (View.loadsAt_vmem Gen.h_S256x2048))
  Prog.lift (.store outM rOut (k0_pay22 a b o) Finset.univ (View.stores_vmem_bits_univ Gen.h_S256x2048 rfl) (.inl rfl))

/-- Receive the four blocks of a later quarter and add its product. -/
def quarter (c : Dev nD) (g : Fin 4) (ds : List (Fin 16)) : Prog (TpuEff nD τ sig (Elt F) Λ₀ .tc) PUnit :=
  each (recvStep c) ds >>= fun _ => dotAdd g

/-- Store the local maximum. -/
def localMax : Prog (TpuEff nD τ sig (Elt F) Λ₀ .tc) PUnit := do
  let o : Vec F S256x2048 .f32 ← Prog.lift (.load outM rOut.toLoadRect (View.loadsAt_vmem Gen.h_S256x2048))
  let _ : Vec F S1x128 .f32 ← Prog.lift (.load amM (rAm 0).toLoadRect (View.loadsAt_vmem Gen.h_S1x128))
  Prog.lift (.store amM (rAm 0) (k0_pay25 o) Finset.univ (View.stores_vmem_bits_univ Gen.h_S1x128 rfl) (.inl rfl))

/-- Send the local maximum to the device at distance `d`. -/
def sendMax (c : Dev nD) (d : Fin 16) : Prog (TpuEff nD τ sig (Elt F) Λ₀ .tc) PUnit :=
  Prog.lift (.enqueueDma (amSl 0) (.remote (Dev.tc (tgt c d)) (amSl d) (.dma (semAt cc0_scratch7 d))) (.dma (semAt cc0_scratch8 d)) ((View.wordExact_bits rfl).reshape _ _) ((View.wordExact_bits rfl).reshape _ _) ⟨⟨rfl, Or.inl rfl⟩, trivial⟩)

/-- Wait until the maximum sent at distance `d` has left and the one from distance `d` has come. -/
def recvMax (d : Fin 16) : Prog (TpuEff nD τ sig (Elt F) Λ₀ .tc) PUnit := do
  Prog.lift (.waitDma2 (semAt cc0_scratch7 d) (amSl d) (amSl 0) ((View.wordExact_bits rfl).reshape _ _) ((View.wordExact_bits rfl).reshape _ _))
  Prog.lift (.waitDma2 (semAt cc0_scratch8 d) (amSl 0) (amSl d) ((View.wordExact_bits rfl).reshape _ _) ((View.wordExact_bits rfl).reshape _ _))

/-- Quantise with the global maximum. -/
def quantise : Prog (TpuEff nD τ sig (Elt F) Λ₀ .tc) PUnit := do
  let a : Vec F S16x128 .f32 ← Prog.lift (.load amM rAmAll.toLoadRect (View.loadsAt_vmem Gen.h_S16x128))
  let o : Vec F S256x2048 .f32 ← Prog.lift (.load outM rOut.toLoadRect (View.loadsAt_vmem Gen.h_S256x2048))
  let _ : Vec F S256x2048 .f32 ← Prog.lift (.load outM rOut.toLoadRect (View.loadsAt_vmem Gen.h_S256x2048))
  Prog.lift (.store outM rOut (k0_pay26 a o) Finset.univ (View.stores_vmem_bits_univ Gen.h_S256x2048 rfl) (.inl rfl))

/-- The whole body on device `c`. -/
def prog (c : Dev nD) : Prog (TpuEff nD τ sig (Elt F) Λ₀ .tc) PUnit := do
  each (sigStep c) others
  castX
  each (wStart c) [0, 1, 2, 3]
  barWait
  each (sendStep c) others
  copyOwn c
  each (wNext c) [0, 1, 2, 3, 4, 5, 6, 7, 8, 9, 10, 11]
  each (wTake c) [12, 13, 14, 15]
  each (recvStep c) [1, 2, 3]
  dotFirst
  quarter c 1 [4, 5, 6, 7]
  quarter c 2 [8, 9, 10, 11]
  quarter c 3 [12, 13, 14, 15]
  localMax
  each (sendMax c) others
  each recvMax others
  quantise

/-- The printed body reads the device's number and is then the program above. -/
theorem body_eq : cc0_body (F := F) xM (Memref.isWhole_whole _) wM (Memref.isWhole_whole _) outM (Memref.isWhole_whole _)
    xbM (Memref.isWhole_whole _) xgM (Memref.isWhole_whole _) wsM (Memref.isWhole_whole _) wbM (Memref.isWhole_whole _)
    amM (Memref.isWhole_whole _) cc0_scratch5 cc0_scratch6 cc0_scratch7 cc0_scratch8 cc0_scratch9
    = Prog.op .deviceId (fun c => prog c) := by
  chain_rfl

end Cert.KernelIdeal.Claims

end
-- ==== Proof.Protocol.lean ====
/-
  The protocol of the sixteen devices.

  Each device has eighty-one semaphore cells: the barrier, and five rows of sixteen transfer semaphores (leaving
  and arriving blocks of `x`, leaving and arriving local maxima, and the local copies of rows of `w`). Every cell is
  used in one round only. This file says which duties each cell has, what each duty is worth, which memory changes
  hands with it and what that memory holds; what every device owes at launch; and the order of the waits.

  The contents are functions of the initial memory: `XB c` the converted block of `x`, `XG c` the gathered rows,
  `WB c` the converted rows of `w` in the order of the ring, `OUT c` the product, `AM c` the sixteen local maxima.
-/
module

public import proofs.«01_k».proof.Proof.Program
public import Idealize.ShloMosaic.Lib.Pipeline.Launch
public import Idealize.ShloMosaic.Lib.Pipeline.Kit
public import Idealize.ShloMosaic.Lib.Pipeline.TalkSched
public import Idealize.ShloMosaic.Lib.Pipeline.ValueKit.Geometry
public import Idealize.ShloMosaic.Lib.ShareLeaves
public import Idealize.ShloMosaic.Lib.ValueIdxCore
public import Idealize.ShloMosaic.Lib.Tactic

@[expose] public section

set_option maxRecDepth 16384

noncomputable section

namespace Cert.KernelIdeal.Claims

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix2)

variable {F : FTy → Type} [FloatOps F]

/-! ## The resource algebra -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The ring -/

/-- The device `d` places back. -/
abbrev src (c : Dev nD) (d : Fin 16) : Dev nD := tgt c (-d)

theorem neg_val (d : Fin 16) : (-d).val = (16 - d.val) % 16 := by revert d; decide

/-- The number of the device `d` places further on … -/
theorem tgt_val (c : Dev nD) (d : Fin 16) : (tgt c d).val = (c.val + d.val) % 16 := ringDev_eq d c
/-- … and of the one `d` places back. -/
theorem src_val (c : Dev nD) (d : Fin 16) : (src c d).val = (c.val + (16 - d.val)) % 16 := by
  rw [tgt_val, neg_val]; omega

theorem tgt_src (c : Dev nD) (d : Fin 16) : tgt (src c d) d = c := by
  have hc : c.val < 16 := c.isLt
  have hd := d.isLt
  exact Fin.ext (by rw [tgt_val, src_val]; omega)
theorem src_tgt (c : Dev nD) (d : Fin 16) : src (tgt c d) d = c := by
  have hc : c.val < 16 := c.isLt
  have hd := d.isLt
  exact Fin.ext (by rw [src_val, tgt_val]; omega)
theorem src_zero (c : Dev nD) : src c 0 = c := by
  have hc : c.val < 16 := c.isLt
  exact Fin.ext (by rw [src_val]; simp only [Fin.val_zero]; omega)

/-! ## The cells -/

/-- A device's cells: the barrier, or an entry of one of the five semaphore arrays. -/
abbrev CellIx : Type := Unit ⊕ (Fin 5 × Fin 16)

/-- The five semaphore arrays. -/
def arrs : Fin 5 → DmaSems sig S16
  | 0 => cc0_scratch5
  | 1 => cc0_scratch6
  | 2 => cc0_scratch7
  | 3 => cc0_scratch8
  | 4 => cc0_scratch9

/-- The kernel's own transfer semaphores … -/
def osem (i : Fin 5 × Fin 16) : SemLoc sig := .dma (semAt (arrs i.1) i.2)

/-- … and with the barrier all of a device's. -/
def csem : CellIx → SemLoc sig
  | .inl _ => .reg barS
  | .inr i => osem i

abbrev kcell (ck : Dev nD × CellIx) : GSem nD τ sig := ((ck.1 : Thread nD τ), csem ck.2)

abbrev barCell (c : Dev nD) : GSem nD τ sig := ((c : Thread nD τ), .reg barS)
abbrev sendCell (c : Dev nD) (d : Fin 16) : GSem nD τ sig := ((c : Thread nD τ), .dma (semAt cc0_scratch5 d))
abbrev recvCell (c : Dev nD) (d : Fin 16) : GSem nD τ sig := ((c : Thread nD τ), .dma (semAt cc0_scratch6 d))
abbrev send2Cell (c : Dev nD) (d : Fin 16) : GSem nD τ sig := ((c : Thread nD τ), .dma (semAt cc0_scratch7 d))
abbrev recv2Cell (c : Dev nD) (d : Fin 16) : GSem nD τ sig := ((c : Thread nD τ), .dma (semAt cc0_scratch8 d))
abbrev locCell (c : Dev nD) (d : Fin 16) : GSem nD τ sig := ((c : Thread nD τ), .dma (semAt cc0_scratch9 d))

/-- The index `d` of a shape of sixteen. -/
def ixS16 (d : Fin 16) : S16.Idx := fun a => ⟨d.val, by fin_cases a; exact d.isLt⟩

theorem rowMajor_S16 : ∀ d : Fin 16, (S16.rowMajor (ixS16 d)).val = d.val := by decide

/-- Entry `d` of sixteen consecutive semaphores is the `d`-th from their base. -/
theorem semAt_consecutive (base : ℕ) (h : base + S16.numel ≤ sig.nDmaSem) (d : Fin 16) :
    (semAt (SemArray.consecutive base S16 h : DmaSems sig S16) d).val = base + d.val := by
  have hx : ∀ y : (Rect.unit (s := S16) ![d.val] S1.size (inbSem d)).shape.Idx,
      (Rect.unit (s := S16) ![d.val] S1.size (inbSem d)).emb y = ixS16 d := fun y => funext fun a => by
    have ha : a = 0 := Subsingleton.elim _ _
    subst ha
    refine Fin.ext ?_
    rw [ValueKit.rect_emb_unit_val]
    have hy : (y 0 : ℕ) < 1 := (y 0).isLt
    show d.val + (y 0 : ℕ) = d.val
    omega
  show base + (S16.rowMajor ((Rect.unit (s := S16) ![d.val] S1.size (inbSem d)).emb _)).val = _
  rw [hx, rowMajor_S16]

/-- The number of an entry of the arrays among all transfer semaphores. -/
theorem semAt_val (k : Fin 5) (d : Fin 16) : (semAt (arrs k) d).val = 2 + 16 * k.val + d.val := by
  match k with
  | 0 => exact semAt_consecutive 2 (by decide) d
  | 1 => exact semAt_consecutive 18 (by decide) d
  | 2 => exact semAt_consecutive 34 (by decide) d
  | 3 => exact semAt_consecutive 50 (by decide) d
  | 4 => exact semAt_consecutive 66 (by decide) d

/-- The cell a semaphore is, if it is one of the protocol's. -/
def tag : SemLoc sig → Option CellIx
  | .reg s => if s = barS then some (.inl ()) else none
  | .dma q => if h : 2 ≤ q.val ∧ (q.val - 2) / 16 < 5 then some (.inr (⟨(q.val - 2) / 16, h.2⟩, ⟨(q.val - 2) % 16, Nat.mod_lt _ (by decide)⟩)) else none

theorem tag_osem (k : Fin 5) (d : Fin 16) : tag (.dma (semAt (arrs k) d)) = some (.inr (k, d)) := by
  have hv := semAt_val k d
  have hk := k.isLt; have hd := d.isLt
  have h : 2 ≤ (semAt (arrs k) d).val ∧ ((semAt (arrs k) d).val - 2) / 16 < 5 := by rw [hv]; omega
  simp only [tag, dif_pos h]
  congr 3
  · exact Fin.ext (by show ((semAt (arrs k) d).val - 2) / 16 = k.val; rw [hv]; omega)
  · exact Fin.ext (by show ((semAt (arrs k) d).val - 2) % 16 = d.val; rw [hv]; omega)

theorem tag_bar : tag (.reg barS) = some (.inl ()) := by simp only [tag, if_true]
theorem tag_send (d : Fin 16) : tag (.dma (semAt cc0_scratch5 d)) = some (.inr (0, d)) := tag_osem 0 d
theorem tag_recv (d : Fin 16) : tag (.dma (semAt cc0_scratch6 d)) = some (.inr (1, d)) := tag_osem 1 d
theorem tag_send2 (d : Fin 16) : tag (.dma (semAt cc0_scratch7 d)) = some (.inr (2, d)) := tag_osem 2 d
theorem tag_recv2 (d : Fin 16) : tag (.dma (semAt cc0_scratch8 d)) = some (.inr (3, d)) := tag_osem 3 d
theorem tag_loc (d : Fin 16) : tag (.dma (semAt cc0_scratch9 d)) = some (.inr (4, d)) := tag_osem 4 d

theorem tag_csem (i : CellIx) : tag (csem i) = some i := by
  rcases i with u | ⟨k, d⟩
  · exact tag_bar
  · exact tag_osem k d

theorem csem_injective : Function.Injective csem := fun i j h => by
  have := congrArg tag h
  rw [tag_csem, tag_csem] at this
  exact Option.some.inj this

theorem kcell_injective : Function.Injective kcell := fun ⟨c, i⟩ ⟨c', i'⟩ h => by
  have hc : c = c' := congrArg (fun g : GSem nD τ sig => g.1.1) h
  subst hc
  have hi : i = i' := csem_injective (congrArg (fun g : GSem nD τ sig => g.2) h)
  rw [hi]

/-! ## Amounts -/

/-- What a block of `x`, a local maximum, a block of `w` counts for. -/
def N1 : ℕ := (xgSl 0).view.dmaCredit
def N2 : ℕ := (amSl 0).view.dmaCredit
def NL : ℕ := (wsSl 0).view.dmaCredit

theorem N1_pos : 0 < N1 := View.dmaCredit_pos _ (by decide)
theorem N2_pos : 0 < N2 := View.dmaCredit_pos _ (by decide)
theorem NL_pos : 0 < NL := View.dmaCredit_pos _ (by decide)

/-! ## Contents -/

/-- A memref's elements on device `c`, at share `q`, holding `f`. -/
abbrev pts {sp : Space} {s : Shape} {e : EltTy} (c : Dev nD) (M : Memref sig .tc sp s e) (q : PosShare TreeShare)
    (f : Buf (Elt F) (M.view.loc (c : Thread nD τ))) : sProp 𝕄 :=
  M.view.loc (c : Thread nD τ) ↦[M.view.set]{q} f

/-- The same at contents left open. -/
def exPts {sp : Space} {s : Shape} {e : EltTy} (c : Dev nD) (M : Memref sig .tc sp s e) : sProp 𝕄 := iprop(∃ f, pts (F := F) c M fullShare f)

/-- A buffer's elements `S` on device `c`, whole share, holding `f`. -/
abbrev on (c : Dev nD) (b : Ref sig .tc) (S : Finset (Idx ((c : Thread nD τ).loc b))) (f : Buf (Elt F) ((c : Thread nD τ).loc b)) : sProp 𝕄 :=
  ((c : Thread nD τ).loc b) ↦[S]{fullShare} f

/-- The device's block of `x` as its input window holds it. -/
def xstg (c : Dev nD) : (cc0_stg0_0 : Ref sig .tc).ty.Contents (Elt F) :=
  (win0_0.blk (0 : Fin 1)).view.read (Elt F) ((s₀ m ρ).mem ((c : Thread nD τ).loc main_arg0))

/-- The device's copy of `w`. -/
def warg (c : Dev nD) : (main_arg1 : Ref sig .tc).ty.Contents (Elt F) := (s₀ m ρ).mem ((c : Thread nD τ).loc main_arg1)

/-- The converted block of `x`. -/
def XB (c : Dev nD) : (cc0_scratch0 : Ref sig .tc).ty.Contents (Elt F) := k0_pay1 (xstg m ρ c)

/-- The block of rows that device `c` gets from `d` places back. -/
def xgBlock (c : Dev nD) (d : Fin 16) : Vec F S256x256 .bf16 := (xbSl (src c d) d).view.read (Elt F) (XB m ρ (src c d))

/-- The gathered rows: block `d` of columns is the block from `d` places back. -/
def XG (c : Dev nD) : (cc0_scratch1 : Ref sig .tc).ty.Contents (Elt F) := fun i =>
  xgBlock m ρ c ⟨(i (1 : Fin 2) : ℕ) / 256, Nat.div_lt_of_lt_mul (i (1 : Fin 2)).isLt⟩
    (ix2 (i (0 : Fin 2)) ⟨(i (1 : Fin 2) : ℕ) % 256, Nat.mod_lt _ (by decide)⟩)

/-- The block of rows of `w` that goes with the block of `x` from `d` places back, as it is staged … -/
def wBlock (c : Dev nD) (d : Fin 16) : Vec F S256x2048 .f32 := (wSl c d).view.read (Elt F) (warg m ρ c)

/-- … and converted. -/
def wbBlock (c : Dev nD) (d : Fin 16) : Vec F S256x2048 .bf16 :=
  k0_pay3 (shapeCast S1x256x2048 (wBlock m ρ c d) (by decide))

/-- The converted rows of `w`, block after block. -/
def WB (c : Dev nD) : (cc0_scratch3 : Ref sig .tc).ty.Contents (Elt F) := fun i =>
  wbBlock m ρ c ⟨(i (0 : Fin 2) : ℕ) / 256, Nat.div_lt_of_lt_mul (i (0 : Fin 2)).isLt⟩
    (ix2 ⟨(i (0 : Fin 2) : ℕ) % 256, Nat.mod_lt _ (by decide)⟩ (i (1 : Fin 2)))

/-- The columns of the gathered rows and the rows of `w` that quarter `g` multiplies. -/
def XQ (c : Dev nD) (g : Fin 4) : Vec F S256x1024 .bf16 := (xgM.access (rXgG g)).read (Elt F) (XG m ρ c)
def WQ (c : Dev nD) (g : Fin 4) : Vec F S1024x2048 .bf16 := (wbM.access (rWbG g)).read (Elt F) (WB m ρ c)

/-- The product after the first quarter, the second, the third, and all four. -/
def OUT0 (c : Dev nD) : Vec F S256x2048 .f32 := k0_pay21 (XQ m ρ c 0) (WQ m ρ c 0)
def OUT1 (c : Dev nD) : Vec F S256x2048 .f32 := k0_pay22 (XQ m ρ c 1) (WQ m ρ c 1) (OUT0 m ρ c)
def OUT2 (c : Dev nD) : Vec F S256x2048 .f32 := k0_pay22 (XQ m ρ c 2) (WQ m ρ c 2) (OUT1 m ρ c)
def OUT (c : Dev nD) : Vec F S256x2048 .f32 := k0_pay22 (XQ m ρ c 3) (WQ m ρ c 3) (OUT2 m ρ c)

/-- The sixteen local maxima: row `d` is the maximum of the device `d` places back. -/
def AM (c : Dev nD) : (cc0_scratch4 : Ref sig .tc).ty.Contents (Elt F) := fun i =>
  k0_pay25 (OUT m ρ (src c (i (0 : Fin 2)))) (ix2 (0 : Fin 1) (i (1 : Fin 2)))

/-- The kernel's result on device `c`. -/
def outAt (c : Dev nD) : (cc0_stg1_0 : Ref sig .tc).ty.Contents (Elt F) := k0_pay26 (AM m ρ c) (OUT m ρ c)

/-! ## Payloads -/

/-- Entry `e` of `c`'s barrier: the memory of the device at distance `e` that `c` will write. -/
def barPay (c : Dev nD) (e : Fin 16) : sProp 𝕄 :=
  iprop(exPts (F := F) (tgt c e) (xgSl e) ∗ exPts (F := F) (tgt c e) (amSl e))
def sendPay (c : Dev nD) (d : Fin 16) : sProp 𝕄 := pts c (xbSl c d) fullShare (XB m ρ c)
def recvPay (c : Dev nD) (d : Fin 16) : sProp 𝕄 := pts c (xgSl d) fullShare (XG m ρ c)
def send2Pay (c : Dev nD) (d : Fin 16) : sProp 𝕄 := pts c (amSl 0) (ShareLeaves.leaf 4 fullShare d) (AM m ρ c)
def recv2Pay (c : Dev nD) (d : Fin 16) : sProp 𝕄 := pts c (amSl d) fullShare (AM m ρ c)
/-- The staged rows of `w`, and the share of `w` they were copied from. -/
def locPay (c : Dev nD) (d : Fin 16) : sProp 𝕄 :=
  iprop((∃ f, ⌜(wsSl d).view.read (Elt F) f = wBlock m ρ c d⌝ ∗ pts c (wsSl d) fullShare f) ∗ pts c (wSl c d) fullShare (warg m ρ c))

/-- The duties of a cell's one round: fifteen signals at a barrier, one transfer at the others. -/
def tagDuties : Option CellIx → Finset (Fin 16)
  | some (.inl _) => Finset.univ.erase 0
  | some (.inr (k, d)) => if k = 4 ∨ d ≠ 0 then {0} else ∅
  | none => ∅

/-- The amounts, from those of a block of `x`, a maximum and a block of `w`. -/
def amountOf (a b l : ℕ) : Option CellIx → ℕ
  | some (.inr (0, _)) => a
  | some (.inr (1, _)) => a
  | some (.inr (2, _)) => b
  | some (.inr (3, _)) => b
  | some (.inr (4, _)) => l
  | _ => 1

theorem amountOf_send (a b l : ℕ) (d : Fin 16) : amountOf a b l (some (.inr (0, d))) = a := rfl
theorem amountOf_recv (a b l : ℕ) (d : Fin 16) : amountOf a b l (some (.inr (1, d))) = a := rfl
theorem amountOf_send2 (a b l : ℕ) (d : Fin 16) : amountOf a b l (some (.inr (2, d))) = b := rfl
theorem amountOf_recv2 (a b l : ℕ) (d : Fin 16) : amountOf a b l (some (.inr (3, d))) = b := rfl
theorem amountOf_loc (a b l : ℕ) (d : Fin 16) : amountOf a b l (some (.inr (4, d))) = l := rfl

def tagPay (c : Dev nD) (e : Fin 16) : Option CellIx → sProp 𝕄
  | some (.inl _) => barPay c e
  | some (.inr (0, d)) => sendPay m ρ c d
  | some (.inr (1, d)) => recvPay m ρ c d
  | some (.inr (2, d)) => send2Pay m ρ c d
  | some (.inr (3, d)) => recv2Pay m ρ c d
  | some (.inr (4, d)) => locPay m ρ c d
  | none => iprop(emp)

theorem amountOf_pos {a b l : ℕ} (ha : 0 < a) (hb : 0 < b) (hl : 0 < l) (o : Option CellIx) : 0 < amountOf a b l o := by
  unfold amountOf
  split
  exacts [ha, ha, hb, hb, hl, Nat.one_pos]

/-- One round, round 0, on the tensor core's cells. -/
def sched : Rounds.Schedule (GSem nD τ sig) (Fin 16) 𝕄 where
  duties g r := if r = 0 ∧ g.1.2 = .tc then tagDuties (tag g.2) else ∅
  unitless _ := False
  amount g _ _ := amountOf N1 N2 NL (tag g.2)
  payload g _ e := tagPay m ρ g.1.1 e (tag g.2)
  amount_pos g _ _ _ := amountOf_pos N1_pos N2_pos NL_pos _

section Storable
variable (c : Dev nD) (d : Fin 16)

instance pts_storable {sp : Space} {s : Shape} {e : EltTy} (M : Memref sig .tc sp s e) (q : PosShare TreeShare)
    (f : Buf (Elt F) (M.view.loc (c : Thread nD τ))) : BI.Storable (upEmb : UEmb _ 𝕄) (pts c M q f) := by infer_instance
instance exPts_storable {sp : Space} {s : Shape} {e : EltTy} (M : Memref sig .tc sp s e) :
    BI.Storable (upEmb : UEmb _ 𝕄) (exPts (F := F) c M) := by unfold exPts; infer_instance
instance barPay_storable : BI.Storable (upEmb : UEmb _ 𝕄) (barPay (F := F) c d) := by unfold barPay; infer_instance
instance sendPay_storable : BI.Storable (upEmb : UEmb _ 𝕄) (sendPay m ρ c d) := by unfold sendPay; infer_instance
instance recvPay_storable : BI.Storable (upEmb : UEmb _ 𝕄) (recvPay m ρ c d) := by unfold recvPay; infer_instance
instance send2Pay_storable : BI.Storable (upEmb : UEmb _ 𝕄) (send2Pay m ρ c d) := by unfold send2Pay; infer_instance
instance recv2Pay_storable : BI.Storable (upEmb : UEmb _ 𝕄) (recv2Pay m ρ c d) := by unfold recv2Pay; infer_instance
instance locPay_storable : BI.Storable (upEmb : UEmb _ 𝕄) (locPay m ρ c d) := by unfold locPay; infer_instance

end Storable

instance sched_payload_storable (g : GSem nD τ sig) (r : ℕ) (e : Fin 16) :
    BI.Storable (upEmb : UEmb _ 𝕄) ((sched (F := F) m ρ).payload g r e) := by
  show BI.Storable upEmb (tagPay m ρ g.1.1 e (tag g.2))
  unfold tagPay
  split <;> infer_instance

section Sched
variable (c : Dev nD) (d e : Fin 16)

theorem duties_tc (sm : SemLoc sig) : (sched (F := F) m ρ).duties ((c : Thread nD τ), sm) 0 = tagDuties (tag sm) := by dsimp only [sched]; exact if_pos ⟨rfl, rfl⟩
theorem duties_later (g : GSem nD τ sig) : ∀ r, 1 ≤ r → (sched (F := F) m ρ).duties g r = ∅ :=
  fun r hr => by dsimp only [sched]; rw [if_neg fun h => by omega]

theorem duties_bar : (sched (F := F) m ρ).duties (barCell c) 0 = Finset.univ.erase 0 := by rw [duties_tc, tag_bar]; rfl
theorem duties_send (h : d ≠ 0) : (sched (F := F) m ρ).duties (sendCell c d) 0 = {0} := by rw [duties_tc, tag_send]; exact if_pos (.inr h)
theorem duties_recv (h : d ≠ 0) : (sched (F := F) m ρ).duties (recvCell c d) 0 = {0} := by rw [duties_tc, tag_recv]; exact if_pos (.inr h)
theorem duties_send2 (h : d ≠ 0) : (sched (F := F) m ρ).duties (send2Cell c d) 0 = {0} := by rw [duties_tc, tag_send2]; exact if_pos (.inr h)
theorem duties_recv2 (h : d ≠ 0) : (sched (F := F) m ρ).duties (recv2Cell c d) 0 = {0} := by rw [duties_tc, tag_recv2]; exact if_pos (.inr h)
theorem duties_loc : (sched (F := F) m ρ).duties (locCell c d) 0 = {0} := by rw [duties_tc, tag_loc]; rfl

theorem amount_bar : (sched (F := F) m ρ).amount (barCell c) 0 e = 1 := by dsimp only [sched]; rw [tag_bar]; rfl
theorem amount_send : (sched (F := F) m ρ).amount (sendCell c d) 0 e = N1 := by dsimp only [sched]; rw [tag_send, amountOf_send]
theorem amount_recv : (sched (F := F) m ρ).amount (recvCell c d) 0 e = N1 := by dsimp only [sched]; rw [tag_recv, amountOf_recv]
theorem amount_send2 : (sched (F := F) m ρ).amount (send2Cell c d) 0 e = N2 := by dsimp only [sched]; rw [tag_send2, amountOf_send2]
theorem amount_recv2 : (sched (F := F) m ρ).amount (recv2Cell c d) 0 e = N2 := by dsimp only [sched]; rw [tag_recv2, amountOf_recv2]
theorem amount_loc : (sched (F := F) m ρ).amount (locCell c d) 0 e = NL := by dsimp only [sched]; rw [tag_loc, amountOf_loc]

theorem payload_bar : (sched (F := F) m ρ).payload (barCell c) 0 e = barPay c e := by dsimp only [sched]; rw [tag_bar]; rfl
theorem payload_send : (sched (F := F) m ρ).payload (sendCell c d) 0 e = sendPay m ρ c d := by dsimp only [sched]; rw [tag_send]; rfl
theorem payload_recv : (sched (F := F) m ρ).payload (recvCell c d) 0 e = recvPay m ρ c d := by dsimp only [sched]; rw [tag_recv]; rfl
theorem payload_send2 : (sched (F := F) m ρ).payload (send2Cell c d) 0 e = send2Pay m ρ c d := by dsimp only [sched]; rw [tag_send2]; rfl
theorem payload_recv2 : (sched (F := F) m ρ).payload (recv2Cell c d) 0 e = recv2Pay m ρ c d := by dsimp only [sched]; rw [tag_recv2]; rfl
theorem payload_loc : (sched (F := F) m ρ).payload (locCell c d) 0 e = locPay m ρ c d := by dsimp only [sched]; rw [tag_loc]; rfl

/-- A cell with the one duty `0` expects that duty's amount. -/
theorem expect_of (g : GSem nD τ sig) {N : ℕ} (hd : (sched (F := F) m ρ).duties g 0 = {0}) (ha : (sched (F := F) m ρ).amount g 0 0 = N) :
    0 + N = (sched (F := F) m ρ).expect g 0 := by
  unfold Schedule.expect Schedule.amountOf; rw [hd, Finset.sum_singleton, ha, Nat.zero_add]

theorem expect_bar : 0 + 15 = (sched (F := F) m ρ).expect (barCell c) 0 := by
  unfold Schedule.expect Schedule.amountOf
  rw [duties_bar, Finset.sum_congr rfl fun d _ => amount_bar m ρ c d, Finset.sum_const, smul_eq_mul]
  decide

/-- What a wait for the one duty `0` brings. -/
theorem rest_of (g : GSem nD τ sig) {P : sProp 𝕄} (hd : (sched (F := F) m ρ).duties g 0 = {0}) (hp : (sched (F := F) m ρ).payload g 0 0 = P) :
    bigSep ((sched (F := F) m ρ).duties g 0 \ ∅) (fun e => (sched (F := F) m ρ).payload g 0 e) = P := by
  rw [Finset.sdiff_empty, hd, bigSep_singleton, hp]

/-- What the barrier's wait brings: every other device's landing memory. -/
theorem rest_bar : bigSep ((sched (F := F) m ρ).duties (barCell c) 0 \ ∅) (fun e => (sched (F := F) m ρ).payload (barCell c) 0 e)
    = bigSepL others (fun e => barPay c e) := by
  rw [Finset.sdiff_empty, duties_bar, show (Finset.univ.erase (0 : Fin 16)) = others.toFinset from by decide,
    bigSep_eq_bigSepL others (by decide)]
  simp only [payload_bar]

end Sched

/-! ## What every device owes, and the order of the waits -/

/-- The signals, the blocks of `x` and the maxima still owed to the devices at the distances `ds`. -/
def oBar (c : Dev nD) (ds : List (Fin 16)) : CellTallies nD τ sig Unit := (ds.map fun d => tallyAt (barCell (tgt c d)) () 1).sum
def oX (c : Dev nD) (ds : List (Fin 16)) : CellTallies nD τ sig Unit := (ds.map fun d => tallyAt (recvCell (tgt c d) d) () N1).sum
def oM (c : Dev nD) (ds : List (Fin 16)) : CellTallies nD τ sig Unit := (ds.map fun d => tallyAt (recv2Cell (tgt c d) d) () N2).sum

/-- What a device owes at launch. -/
def O₀ (c : Dev nD) : CellTallies nD τ sig Unit := oBar c others + (oX c others + oM c others)

def L (g : GSem nD τ sig) : Finset Unit := if g.1.2 = .tc then {()} else ∅

/-- Barrier 1, arriving blocks 2, arriving maxima 3, everything else 0. -/
def lvTag : Option CellIx → ℕ
  | some (.inl _) => 1
  | some (.inr (1, _)) => 2
  | some (.inr (3, _)) => 3
  | _ => 0
def lv (g : GSem nD τ sig) (_ : Unit) : ℕ := lvTag (tag g.2)

theorem L_of_ne (g : GSem nD τ sig) (h : g.1.2 ≠ .tc) : L g = ∅ := if_neg h
theorem L_tc (c : Dev nD) (sm : SemLoc sig) : L ((c : Thread nD τ), sm) = {()} := if_pos rfl

/-- Everything owed lies above level `n`. -/
def Above (n : ℕ) (O : CellTallies nD τ sig Unit) : Prop := ∀ g u, 0 < O g u → g.1.2 = .tc ∧ n < lv g u

theorem Above.zero (n : ℕ) : Above n 0 := fun _ _ h => absurd h (Nat.lt_irrefl 0)
theorem Above.add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem Above.tally {n : ℕ} (c : Dev nD) (sm : SemLoc sig) (N : ℕ) (h : n < lvTag (tag sm)) : Above n (tallyAt ((c : Thread nD τ), sm) () N) := fun g u hg => by
  rw [tallyAt_apply] at hg
  by_cases hc : g = ((c : Thread nD τ), sm) ∧ u = ()
  · rw [hc.1]; exact ⟨rfl, h⟩
  · rw [if_neg hc] at hg; exact absurd hg (Nat.lt_irrefl 0)
theorem Above.list {n : ℕ} {A : Type} (f : A → CellTallies nD τ sig Unit) (h : ∀ a, Above n (f a)) : ∀ l : List A, Above n (l.map f).sum
  | [] => Above.zero n
  | a :: l => by rw [List.map_cons, List.sum_cons]; exact (h a).add (Above.list f h l)

theorem above_oBar (c : Dev nD) (ds : List (Fin 16)) : Above 0 (oBar c ds) :=
  Above.list _ (fun d => Above.tally _ _ _ (by rw [tag_bar]; decide)) ds
theorem above_oX {n : ℕ} (hn : n < 2) (c : Dev nD) (ds : List (Fin 16)) : Above n (oX c ds) :=
  Above.list _ (fun d => Above.tally _ _ _ (by rw [tag_recv]; exact hn)) ds
theorem above_oM {n : ℕ} (hn : n < 3) (c : Dev nD) (ds : List (Fin 16)) : Above n (oM c ds) :=
  Above.list _ (fun d => Above.tally _ _ _ (by rw [tag_recv2]; exact hn)) ds

/-- A wait below everything owed is in order. -/
theorem mayWait_of (c : Dev nD) (sm : SemLoc sig) (n : ℕ) (hsm : lvTag (tag sm) ≤ n) {O : CellTallies nD τ sig Unit} (hO : Above n O) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by rw [show L g = {()} from if_pos (hO g u hg).1]; exact Finset.mem_singleton_self _)
    (fun p hp => by rw [Finset.mem_singleton.mp hp]; exact hsm)
    (fun g u hg => (hO g u hg).2)

end Cert.KernelIdeal.Claims

end
-- ==== Proof.Regions.lean ====
/-
  The regions of the buffers and what they hold.

  Every buffer the devices share or stream through is cut into blocks by one coordinate. Here: which elements each
  block has, that a whole buffer is its blocks, and that what a transfer or a store leaves in a block is that block of
  the buffer's final contents.
-/
module

public import proofs.«01_k».proof.Proof.Protocol

@[expose] public section

set_option maxRecDepth 16384

noncomputable section

namespace Cert.KernelIdeal.Claims

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

/-! ## Which elements -/

theorem mem_xgSl (d : Fin 16) (i : S256x4096.Idx) : i ∈ (xgSl d).view.set ↔ (i (1 : Fin 2) : ℕ) / 256 = d.val := by
  rw [show (xgSl d).view.set = (rXg d).set from View.set_slice_whole _ _, Rect.mem_set_unit]
  have h0 : (i (0 : Fin 2) : ℕ) < 256 := (i 0).isLt
  constructor
  · intro h; have := h 1; simp at this; omega
  · intro h a; fin_cases a <;> simp <;> omega

theorem mem_xgG (g : Fin 4) (i : S256x4096.Idx) : i ∈ (xgM.access (rXgG g)).set ↔ (i (1 : Fin 2) : ℕ) / 1024 = g.val := by
  rw [show (xgM.access (rXgG g)).set = (rXgG g).set from View.set_slice_whole _ _, Rect.mem_set_unit]
  have h0 : (i (0 : Fin 2) : ℕ) < 256 := (i 0).isLt
  constructor
  · intro h; have := h 1; simp at this; omega
  · intro h a; fin_cases a <;> simp <;> omega

theorem mem_xbSl (c : Dev nD) (d : Fin 16) (i : S4096x256.Idx) : i ∈ (xbSl c d).view.set ↔ (i (0 : Fin 2) : ℕ) / 256 = (c.val + d.val) % 16 := by
  rw [show (xbSl c d).view.set = (rXb c d).set from View.set_slice_whole _ _, Rect.mem_set_unit, off2_eq]
  have h0 : (i (1 : Fin 2) : ℕ) < 256 := (i 1).isLt
  constructor
  · intro h; have := h 0; simp at this; omega
  · intro h a; fin_cases a <;> simp <;> omega

theorem mem_wSl (c : Dev nD) (d : Fin 16) (i : S4096x2048.Idx) : i ∈ (wSl c d).view.set ↔ (i (0 : Fin 2) : ℕ) / 256 = (c.val + (16 - d.val)) % 16 := by
  rw [show (wSl c d).view.set = (rW c d).set from View.set_slice_whole _ _, Rect.mem_set_unit, off1_eq]
  have h0 : (i (1 : Fin 2) : ℕ) < 2048 := (i 1).isLt
  constructor
  · intro h; have := h 0; simp at this; omega
  · intro h a; fin_cases a <;> simp <;> omega

theorem set_wsSl (d : Fin 16) : (wsSl d).view.set = (wsM.access (rWs d)).set := View.set_reshape _ _

theorem mem_wsSl (d : Fin 16) (i : S4x256x2048.Idx) : i ∈ (wsSl d).view.set ↔ (i (0 : Fin 3) : ℕ) = d.val % 4 := by
  rw [set_wsSl, show (wsM.access (rWs d)).set = (rWs d).set from View.set_slice_whole _ _, Rect.mem_set_unit]
  have h0 : (i (1 : Fin 3) : ℕ) < 256 := (i 1).isLt
  have h1 : (i (2 : Fin 3) : ℕ) < 2048 := (i 2).isLt
  constructor
  · intro h; have := h 0; simp at this; omega
  · intro h a; fin_cases a <;> simp <;> omega

theorem mem_wb (d : Fin 16) (i : S4096x2048.Idx) : i ∈ (wbM.access (rWb d)).set ↔ (i (0 : Fin 2) : ℕ) / 256 = d.val := by
  rw [show (wbM.access (rWb d)).set = (rWb d).set from View.set_slice_whole _ _, Rect.mem_set_unit]
  have h0 : (i (1 : Fin 2) : ℕ) < 2048 := (i 1).isLt
  constructor
  · intro h; have := h 0; simp at this; omega
  · intro h a; fin_cases a <;> simp <;> omega

theorem set_amSl (d : Fin 16) : (amSl d).view.set = (amM.access (rAm d)).set := View.set_reshape _ _

theorem mem_amSl (d : Fin 16) (i : S16x128.Idx) : i ∈ (amSl d).view.set ↔ (i (0 : Fin 2) : ℕ) = d.val := by
  rw [set_amSl, show (amM.access (rAm d)).set = (rAm d).set from View.set_slice_whole _ _, Rect.mem_set_unit]
  have h0 : (i (1 : Fin 2) : ℕ) < 128 := (i 1).isLt
  constructor
  · intro h; have := h 0; simp at this; omega
  · intro h a; fin_cases a <;> simp <;> omega

/-! ## A set of elements is its blocks -/

/-- Elements grouped by a coordinate `p`: the group set `S` is the groups in it, one by one. -/
theorem blocks_eq {ℓ : Loc nD τ sig} {n : ℕ} (K : Fin n → Finset (Idx ℓ)) (p : Idx ℓ → ℕ) (φ : Fin n → ℕ) (hφ : Function.Injective φ)
    (hK : ∀ d i, i ∈ K d ↔ p i = φ d) (S : Finset (Fin n)) (T : Finset (Idx ℓ)) (hT : ∀ i, i ∈ T ↔ ∃ d ∈ S, p i = φ d)
    (q : PosShare TreeShare) (f : Buf (Elt F) ℓ) :
    (ℓ ↦[T]{q} f : sProp 𝕄) = bigSep S fun d => ℓ ↦[K d]{q} f := by
  have hTS : T = S.biUnion K := by
    ext i
    rw [Finset.mem_biUnion, hT]
    exact ⟨fun ⟨d, hd, h⟩ => ⟨d, hd, (hK d i).2 h⟩, fun ⟨d, hd, h⟩ => ⟨d, hd, (hK d i).1 h⟩⟩
  rw [hTS]
  refine pointsTo_biUnion S K fun d _ d' _ hne => Finset.disjoint_left.mpr fun i hi hi' => hne (hφ ?_)
  rw [← (hK d i).1 hi, (hK d' i).1 hi']

theorem plus_injective (c : Dev nD) : Function.Injective fun d : Fin 16 => (c.val + d.val) % 16 := fun d d' h => by
  have hd := d.isLt; have hd' := d'.isLt; have hc : c.val < 16 := c.isLt
  exact Fin.ext (by dsimp only at h; omega)

theorem minus_injective (c : Dev nD) : Function.Injective fun d : Fin 16 => (c.val + (16 - d.val)) % 16 := fun d d' h => by
  have hd := d.isLt; have hd' := d'.isLt; have hc : c.val < 16 := c.isLt
  exact Fin.ext (by dsimp only at h; omega)

/-- The sixteen distances, in order. -/
abbrev all16 : List (Fin 16) := 0 :: others

theorem bigSep_all16 (Φ : Fin 16 → sProp 𝕄) : bigSep Finset.univ Φ = bigSepL all16 Φ :=
  bigSep_univ_eq_bigSepL all16 (by decide) (by decide) Φ

section Split
variable (c : Dev nD)

/-- The converted block of `x` is its sixteen blocks of rows. -/
theorem xb_blocks (f : Buf (Elt F) ((c : Thread nD τ).loc cc0_scratch0)) :
    (((c : Thread nD τ).loc cc0_scratch0) ↦{fullShare} f : sProp 𝕄) = bigSepL all16 fun d => pts c (xbSl c d) fullShare f := by
  rw [← bigSep_all16]
  refine blocks_eq (ℓ := (c : Thread nD τ).loc cc0_scratch0) (fun d => (xbSl c d).view.set) (fun i => (i (0 : Fin 2) : ℕ) / 256) _ (plus_injective c) (fun d i => mem_xbSl c d i) _ _ (fun i => ?_) _ f
  have hi : (i (0 : Fin 2) : ℕ) < 4096 := (i (0 : Fin 2)).isLt
  have hc : c.val < 16 := c.isLt
  exact ⟨fun _ => ⟨⟨((i (0 : Fin 2) : ℕ) / 256 + 16 - c.val) % 16, Nat.mod_lt _ (by decide)⟩, Finset.mem_univ _, by dsimp only; omega⟩, fun _ => Finset.mem_univ _⟩

/-- `w` is its sixteen blocks of rows, in the order of the ring. -/
theorem w_blocks (f : Buf (Elt F) ((c : Thread nD τ).loc main_arg1)) :
    (((c : Thread nD τ).loc main_arg1) ↦{fullShare} f : sProp 𝕄) = bigSepL all16 fun d => pts c (wSl c d) fullShare f := by
  rw [← bigSep_all16]
  refine blocks_eq (ℓ := (c : Thread nD τ).loc main_arg1) (fun d => (wSl c d).view.set) (fun i => (i (0 : Fin 2) : ℕ) / 256) _ (minus_injective c) (fun d i => mem_wSl c d i) _ _ (fun i => ?_) _ f
  have hi : (i (0 : Fin 2) : ℕ) < 4096 := (i (0 : Fin 2)).isLt
  have hc : c.val < 16 := c.isLt
  exact ⟨fun _ => ⟨⟨(c.val + 16 - (i (0 : Fin 2) : ℕ) / 256) % 16, Nat.mod_lt _ (by decide)⟩, Finset.mem_univ _, by dsimp only; omega⟩, fun _ => Finset.mem_univ _⟩

/-- The gathered rows are their sixteen blocks of columns … -/
theorem xg_blocks (f : Buf (Elt F) ((c : Thread nD τ).loc cc0_scratch1)) :
    (((c : Thread nD τ).loc cc0_scratch1) ↦{fullShare} f : sProp 𝕄) = bigSepL all16 fun d => pts c (xgSl d) fullShare f := by
  rw [← bigSep_all16]
  refine blocks_eq (ℓ := (c : Thread nD τ).loc cc0_scratch1) (fun d => (xgSl d).view.set) (fun i => (i (1 : Fin 2) : ℕ) / 256) _ Fin.val_injective (fun d i => mem_xgSl d i) _ _ (fun i => ?_) _ f
  have hi : (i (1 : Fin 2) : ℕ) < 4096 := (i (1 : Fin 2)).isLt
  exact ⟨fun _ => ⟨⟨(i (1 : Fin 2) : ℕ) / 256, by omega⟩, Finset.mem_univ _, rfl⟩, fun _ => Finset.mem_univ _⟩

/-- … and quarter `g` of them is its four. -/
theorem xg_quarter (g : Fin 4) (f : Buf (Elt F) ((c : Thread nD τ).loc cc0_scratch1)) :
    (((c : Thread nD τ).loc cc0_scratch1) ↦[(xgM.access (rXgG g)).set]{fullShare} f : sProp 𝕄)
      = bigSepL ((List.finRange 4).map fun e : Fin 4 => (⟨4 * g.val + e.val, by omega⟩ : Fin 16)) fun d => pts c (xgSl d) fullShare f := by
  rw [← bigSep_eq_bigSepL _ (by revert g; decide)]
  refine blocks_eq (ℓ := (c : Thread nD τ).loc cc0_scratch1) (fun d => (xgSl d).view.set) (fun i => (i (1 : Fin 2) : ℕ) / 256) _ Fin.val_injective (fun d i => mem_xgSl d i) _ _ (fun i => ?_) _ f
  have hi : (i (1 : Fin 2) : ℕ) < 4096 := (i (1 : Fin 2)).isLt
  rw [mem_xgG]
  constructor
  · intro h
    exact ⟨⟨(i (1 : Fin 2) : ℕ) / 256, by omega⟩, List.mem_toFinset.mpr (List.mem_map.mpr
      ⟨⟨(i (1 : Fin 2) : ℕ) / 256 - 4 * g.val, by omega⟩, List.mem_finRange _, Fin.ext (by dsimp only; omega)⟩), rfl⟩
  · rintro ⟨d, hd, h⟩
    obtain ⟨e, -, rfl⟩ := List.mem_map.mp (List.mem_toFinset.mp hd)
    have he := e.isLt
    dsimp only at h; omega

/-- The converted rows of `w` are their sixteen blocks. -/
theorem wb_blocks (f : Buf (Elt F) ((c : Thread nD τ).loc cc0_scratch3)) :
    (((c : Thread nD τ).loc cc0_scratch3) ↦{fullShare} f : sProp 𝕄)
      = bigSepL all16 fun d => ((c : Thread nD τ).loc cc0_scratch3) ↦[(wbM.access (rWb d)).set]{fullShare} f := by
  rw [← bigSep_all16]
  refine blocks_eq (ℓ := (c : Thread nD τ).loc cc0_scratch3) (fun d => (wbM.access (rWb d)).set) (fun i => (i (0 : Fin 2) : ℕ) / 256) _ Fin.val_injective (fun d i => mem_wb d i) _ _ (fun i => ?_) _ f
  have hi : (i (0 : Fin 2) : ℕ) < 4096 := (i (0 : Fin 2)).isLt
  exact ⟨fun _ => ⟨⟨(i (0 : Fin 2) : ℕ) / 256, by omega⟩, Finset.mem_univ _, rfl⟩, fun _ => Finset.mem_univ _⟩

/-- The maxima are their sixteen rows. -/
theorem am_rows (f : Buf (Elt F) ((c : Thread nD τ).loc cc0_scratch4)) :
    (((c : Thread nD τ).loc cc0_scratch4) ↦{fullShare} f : sProp 𝕄) = bigSepL all16 fun d => pts c (amSl d) fullShare f := by
  rw [← bigSep_all16]
  refine blocks_eq (ℓ := (c : Thread nD τ).loc cc0_scratch4) (fun d => (amSl d).view.set) (fun i => (i (0 : Fin 2) : ℕ)) _ Fin.val_injective (fun d i => mem_amSl d i) _ _ (fun i => ?_) _ f
  exact ⟨fun _ => ⟨i (0 : Fin 2), Finset.mem_univ _, rfl⟩, fun _ => Finset.mem_univ _⟩

theorem exPts_intro {sp : Space} {s : Shape} {e : EltTy} (M : Memref sig .tc sp s e) (f : Buf (Elt F) (M.view.loc (c : Thread nD τ))) :
    pts c M fullShare f ⊢ exPts (F := F) c M := by
  unfold exPts
  iintro H
  iexists f
  iexact H

/-- The staging slots. -/
abbrev slots : List (Fin 16) := [0, 1, 2, 3]

theorem slot_lt (d : Fin 4) : d.val < 16 := by omega

theorem ws_sets (c : Dev nD) : ∀ i : Idx ((c : Thread nD τ).loc cc0_scratch2), i ∈ (Finset.univ : Finset (Idx ((c : Thread nD τ).loc cc0_scratch2))) ↔ ∃ d ∈ (Finset.univ : Finset (Fin 4)), (i (0 : Fin 3) : ℕ) = d.val :=
  fun i => ⟨fun _ => ⟨i (0 : Fin 3), Finset.mem_univ _, rfl⟩, fun _ => Finset.mem_univ _⟩

theorem bigSep_slots (Φ : Fin 16 → sProp 𝕄) : bigSep Finset.univ (fun d : Fin 4 => Φ ⟨d.val, slot_lt d⟩) = bigSepL slots Φ := by
  rw [bigSep_univ_eq_bigSepL [0, 1, 2, 3] (by decide) (by decide)]; rfl

/-- The staging buffer is its four slots. -/
theorem ws_split (f : Buf (Elt F) ((c : Thread nD τ).loc cc0_scratch2)) :
    (((c : Thread nD τ).loc cc0_scratch2) ↦{fullShare} f : sProp 𝕄) ⊢ bigSepL slots fun d => exPts (F := F) c (wsSl d) := by
  rw [← bigSep_slots, blocks_eq (ℓ := (c : Thread nD τ).loc cc0_scratch2) (fun d : Fin 4 => (wsSl ⟨d.val, slot_lt d⟩).view.set) (fun i => (i (0 : Fin 3) : ℕ)) _ Fin.val_injective
    (fun d i => (mem_wsSl _ i).trans (by rw [Nat.mod_eq_of_lt d.isLt])) Finset.univ Finset.univ (ws_sets c) _ f]
  exact bigSep_mono fun d _ => exPts_intro c (wsSl ⟨d.val, slot_lt d⟩) f

/-- The four slots, whatever they hold, are the staging buffer. -/
theorem ws_join : bigSepL slots (fun d => exPts (F := F) c (wsSl d)) ⊢ (iprop(∃ f, ((c : Thread nD τ).loc cc0_scratch2) ↦{fullShare} f) : sProp 𝕄) := by
  have hne : ∀ d : Fin 4, Nonempty (Buf (Elt F) ((wsSl ⟨d.val, slot_lt d⟩).view.loc (c : Thread nD τ))) := fun d => ⟨fun _ => (constant (F := F) S_ .f32 0x00000000#32 : FVec F S_ .f32) (fun a => a.elim0)⟩
  rw [← bigSep_slots]
  unfold exPts
  refine (bigSep_exists_pi Finset.univ _).trans ?_
  iintro ⟨%fs, H⟩
  ihave H := (pointsTo_biUnion_join Finset.univ (fun d : Fin 4 => (wsSl ⟨d.val, slot_lt d⟩).view.set) fs (fs 0) (fun d _ d' _ hne => Finset.disjoint_left.mpr fun i hi hi' => hne (Fin.ext (by
    have h := (mem_wsSl _ i).1 hi; have h' := (mem_wsSl _ i).1 hi'
    rw [Nat.mod_eq_of_lt d.isLt] at h; rw [Nat.mod_eq_of_lt d'.isLt] at h'; exact h.symm.trans h')))) $$ H
  icases H with ⟨%g, -, H⟩
  iexists g
  rw [show (Finset.univ : Finset (Idx ((c : Thread nD τ).loc cc0_scratch2))) = Finset.univ.biUnion fun d : Fin 4 => (wsSl ⟨d.val, slot_lt d⟩).view.set from ?_]
  · iexact H
  · ext i
    rw [Finset.mem_biUnion, ws_sets c i]
    exact ⟨fun ⟨d, hd, h⟩ => ⟨d, hd, (mem_wsSl _ i).2 (by rw [Nat.mod_eq_of_lt d.isLt]; exact h)⟩,
      fun ⟨d, hd, h⟩ => ⟨d, hd, by rw [← Nat.mod_eq_of_lt d.isLt]; exact (mem_wsSl _ i).1 h⟩⟩

/-- Four blocks on, the slot is the same. -/
theorem wsSl_next (d : Fin 16) : wsSl (d + 4) = wsSl d := by
  have h : ![(d + 4).val % 4, 0, 0] = (![d.val % 4, 0, 0] : Fin 3 → Nat) := by revert d; decide
  unfold wsSl rWs
  rw [Memref.slice_unit_congr wsM h]

end Split

end Cert.KernelIdeal.Claims

end
-- ==== Proof.Landing.lean ====
/-
  What the transfers and the stores leave in the buffers.

  Each lemma says that a block written by a transfer or a store is the block of the buffer's final contents (as
  `Protocol` defines them): a block of `x` landing from another device, a local maximum landing, the device's own
  block, a converted block of `w`, and the local maximum itself.
-/
module

public import proofs.«01_k».proof.Proof.Regions

@[expose] public section

set_option maxRecDepth 16384

noncomputable section

namespace Cert.KernelIdeal.Claims

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx (ix2)

variable {F : FTy → Type} [FloatOps F]

local notation "𝕄" => MT nD τ sig Unit (Elt F) ℕ UU ℕ

variable (m : (ℓ : Loc nD τ sig) → Buf (Elt F) ℓ) (ρ : Dev nD → PrngReg)

/-- Writing `X` through a view leaves, on the view's elements, any contents that read `X` through it. -/
theorem write_pts {c : Dev nD} {sp : Space} {s : Shape} {e : EltTy} (v : View sig .tc sp s e) (q : PosShare TreeShare)
    (fd g : Buf (Elt F) (v.loc (c : Thread nD τ))) (X : s.Idx → Elt F e) (hX : v.read (Elt F) g = X) :
    (v.loc (c : Thread nD τ) ↦[v.set]{q} v.write (Elt F) fd X Finset.univ : sProp 𝕄) = v.loc (c : Thread nD τ) ↦[v.set]{q} g := by
  refine pointsTo_congr fun i hi => ?_
  obtain ⟨x, -, rfl⟩ := Finset.mem_map.mp hi
  rw [View.write_emb_of_mem _ _ (Finset.mem_univ _), ← hX, View.read_apply, cast_cast, cast_eq]

/-- A rectangle of a whole buffer reads the buffer at the rectangle's elements. -/
theorem read_access (b : Ref sig .tc) (r : Rect b.ty.shape) (f : b.ty.Contents (Elt F)) (x : r.shape.Idx) :
    ((Memref.whole b).access r).read (Elt F) f x = f (((Memref.whole b).access r).emb x) := rfl

/-- Reading a view is reading it at another shape and re-indexing back. -/
theorem read_of_reshape {sp : Space} {s s' : Shape} {e : EltTy} (v : View sig .tc sp s e) (h : s'.numel = s.numel) (h' : s.numel = s'.numel)
    (f : v.ty.Contents (Elt F)) : v.read (Elt F) f = shapeCast s ((v.reshape s' h).read (Elt F) f) h' := by
  funext y
  show v.read (Elt F) f y = v.read (Elt F) f (Shape.reshapeEquiv h (Shape.reshapeEquiv h' y))
  rw [Shape.reshapeEquiv_reshapeEquiv, Shape.reshapeEquiv_self]

/-- Equal rectangles of one view read the same, the shapes being the same. -/
theorem read_slice_congr {sp : Space} {s : Shape} {e : EltTy} (v : View sig .tc sp s e) {off off' size : Fin s.rank → ℕ} (h : off = off')
    (p : ∀ a, off a + size a ≤ s.size a) (p' : ∀ a, off' a + size a ≤ s.size a) (f : v.ty.Contents (Elt F)) :
    (v.slice (Rect.unit off size p)).read (Elt F) f = (v.slice (Rect.unit off' size p')).read (Elt F) f := by
  subst h
  rfl

theorem ix2_eta {a b : ℕ} (x : (⟨2, ![a, b]⟩ : Shape).Idx) (i : Fin a) (j : Fin b) (hi : (x (0 : Fin 2) : ℕ) = i.val) (hj : (x (1 : Fin 2) : ℕ) = j.val) :
    ix2 i j = x := by
  funext a'
  match a' with
  | ⟨0, _⟩ => exact Fin.ext hi.symm
  | ⟨1, _⟩ => exact Fin.ext hj.symm

/-- Block `d` of the gathered rows is the block from `d` places back. -/
theorem read_xg (c : Dev nD) (d : Fin 16) : (xgSl d).view.read (Elt F) (XG m ρ c) = xgBlock m ρ c d := by
  funext x
  have h0 : (((xgSl d).view.emb x (0 : Fin 2) : Fin _) : ℕ) = 0 + (x (0 : Fin 2) : ℕ) := ValueKit.view_emb_slice_whole_unit_val cc0_scratch1 _ _ (inbXg d) x 0
  have h1 : (((xgSl d).view.emb x (1 : Fin 2) : Fin _) : ℕ) = 256 * d.val + (x (1 : Fin 2) : ℕ) := ValueKit.view_emb_slice_whole_unit_val cc0_scratch1 _ _ (inbXg d) x 1
  have hx : (x (1 : Fin 2) : ℕ) < 256 := (x 1).isLt
  show XG m ρ c ((xgSl d).view.emb x) = _
  unfold XG
  rw [show (⟨(((xgSl d).view.emb x (1 : Fin 2) : Fin _) : ℕ) / 256, Nat.div_lt_of_lt_mul ((xgSl d).view.emb x (1 : Fin 2)).isLt⟩ : Fin 16) = d from Fin.ext (by dsimp only; rw [h1]; omega)]
  exact congrArg _ (ix2_eta x _ _ (by rw [h0]; omega) (by dsimp only; rw [h1]; omega))

/-- Block `d` of the converted rows of `w`. -/
theorem read_wb (c : Dev nD) (d : Fin 16) : (wbM.access (rWb d)).read (Elt F) (WB m ρ c) = wbBlock m ρ c d := by
  funext x
  have h0 : (((wbM.access (rWb d)).emb x (0 : Fin 2) : Fin _) : ℕ) = 256 * d.val + (x (0 : Fin 2) : ℕ) := ValueKit.view_emb_slice_whole_unit_val cc0_scratch3 _ _ (inbWb d) x 0
  have h1 : (((wbM.access (rWb d)).emb x (1 : Fin 2) : Fin _) : ℕ) = 0 + (x (1 : Fin 2) : ℕ) := ValueKit.view_emb_slice_whole_unit_val cc0_scratch3 _ _ (inbWb d) x 1
  have hx : (x (0 : Fin 2) : ℕ) < 256 := (x 0).isLt
  show WB m ρ c ((wbM.access (rWb d)).emb x) = _
  unfold WB
  rw [show (⟨(((wbM.access (rWb d)).emb x (0 : Fin 2) : Fin _) : ℕ) / 256, Nat.div_lt_of_lt_mul ((wbM.access (rWb d)).emb x (0 : Fin 2)).isLt⟩ : Fin 16) = d from Fin.ext (by dsimp only; rw [h0]; omega)]
  exact congrArg _ (ix2_eta x _ _ (by dsimp only; rw [h0]; omega) (by rw [h1]; omega))

/-- Row `d` of the maxima is the local maximum of the device `d` places back. -/
theorem read_am (c : Dev nD) (d : Fin 16) : (amM.access (rAm d)).read (Elt F) (AM m ρ c) = k0_pay25 (OUT m ρ (src c d)) := by
  funext x
  have h0 : (((amM.access (rAm d)).emb x (0 : Fin 2) : Fin _) : ℕ) = d.val + (x (0 : Fin 2) : ℕ) := ValueKit.view_emb_slice_whole_unit_val cc0_scratch4 _ _ (inbAm d) x 0
  have h1 : (((amM.access (rAm d)).emb x (1 : Fin 2) : Fin _) : ℕ) = 0 + (x (1 : Fin 2) : ℕ) := ValueKit.view_emb_slice_whole_unit_val cc0_scratch4 _ _ (inbAm d) x 1
  have hx : (x (0 : Fin 2) : ℕ) < 1 := (x 0).isLt
  refine (read_access cc0_scratch4 (rAm d) _ x).trans ?_
  unfold AM
  rw [show ((amM.access (rAm d)).emb x (0 : Fin 2) : Fin 16) = d from Fin.ext (by rw [h0]; omega)]
  exact congrArg _ (ix2_eta x _ _ (by show (x (0 : Fin 2) : ℕ) = 0; omega) (by rw [h1]; omega))

/-- A squeezed row of the maxima reads what the row reads, re-indexed. -/
theorem read_amSl (d : Fin 16) (f : (cc0_scratch4 : Ref sig .tc).ty.Contents (Elt F)) :
    (amSl d).view.read (Elt F) f = shapeCast S128 (show Vec F S1x128 .f32 from (amM.access (rAm d)).read (Elt F) f) (by decide) := rfl

/-- A block of `x` that lands from `c` on the device at distance `d`. -/
theorem land_xg (c : Dev nD) (d : Fin 16) (fd : Buf (Elt F) ((xgSl d).view.loc (tgt c d : Thread nD τ))) :
    pts (tgt c d) (xgSl d) fullShare ((xgSl d).view.write (Elt F) fd ((xbSl c d).view.read (Elt F) (XB m ρ c)) Finset.univ) = recvPay m ρ (tgt c d) d :=
  write_pts (xgSl d).view _ _ _ _ (by rw [read_xg, xgBlock, src_tgt])

/-- A maximum that lands from `c` on the device at distance `d`. -/
theorem land_am (c : Dev nD) (d : Fin 16) (fd : Buf (Elt F) ((amSl d).view.loc (tgt c d : Thread nD τ))) :
    pts (tgt c d) (amSl d) fullShare ((amSl d).view.write (Elt F) fd ((amSl 0).view.read (Elt F) (AM m ρ c)) Finset.univ) = recv2Pay m ρ (tgt c d) d :=
  write_pts (amSl d).view _ _ _ _ (by rw [read_amSl, read_amSl, read_am, read_am, src_tgt, src_zero])

theorem pay2_eq (v : Vec F S256x256 .bf16) : k0_pay2 v = v := by
  funext x
  exact congrArg v (Shape.reshapeEquiv_self _ x)

/-- The device's own block of `x` begins where its block at distance nought does. -/
theorem offOwn_eq : ∀ c : Dev nD, k0_off3 c = k0_off2 c (BitVec.ofNat 32 (0 : Fin 16).val) := by
  decide +kernel

/-- The device's own block of rows. -/
theorem own_xg (c : Dev nD) (fd : Buf (Elt F) ((xgM.access (rXg 0)).loc (c : Thread nD τ))) :
    ((xgM.access (rXg 0)).loc (c : Thread nD τ) ↦[(xgM.access (rXg 0)).set]{fullShare}
        (xgM.access (rXg 0)).write (Elt F) fd (k0_pay2 ((xbM.access (rXbOwn c)).read (Elt F) (XB m ρ c))) Finset.univ : sProp 𝕄)
      = recvPay m ρ c 0 :=
  write_pts (xgSl 0).view _ _ _ _ (by
    rw [read_xg, xgBlock, src_zero]
    exact (read_slice_congr xbM.view (offOwn_eq c).symm (inbXb 0 c) (Gen.k0_off3_inb c) _).trans (pay2_eq _).symm)

/-- The staged block of `w`, as a load of its slot reads it. -/
theorem read_slot (c : Dev nD) (d : Fin 16) (f : (cc0_scratch2 : Ref sig .tc).ty.Contents (Elt F)) (X : Vec F S256x2048 .f32)
    (hf : (wsSl d).view.read (Elt F) f = X) :
    ((wsM.access (rWs d)).read (Elt F) f : Vec F S1x256x2048 .f32) = shapeCast S1x256x2048 X (by decide) := by
  subst hf
  exact read_of_reshape (wsM.view.slice (rWs d)) _ _ f

/-- A converted block of `w`. -/
theorem own_wb (c : Dev nD) (d : Fin 16) (fd : Buf (Elt F) ((wbM.access (rWb d)).loc (c : Thread nD τ)))
    (f : (cc0_scratch2 : Ref sig .tc).ty.Contents (Elt F)) (hf : (wsSl d).view.read (Elt F) f = wBlock m ρ c d) :
    ((wbM.access (rWb d)).loc (c : Thread nD τ) ↦[(wbM.access (rWb d)).set]{fullShare}
        (wbM.access (rWb d)).write (Elt F) fd (k0_pay3 ((wsM.access (rWs d)).read (Elt F) f)) Finset.univ : sProp 𝕄)
      = (wbM.access (rWb d)).loc (c : Thread nD τ) ↦[(wbM.access (rWb d)).set]{fullShare} WB m ρ c :=
  write_pts (wbM.access (rWb d)) _ _ _ _ (by rw [read_wb, read_slot c d f _ hf]; rfl)

/-- The local maximum. -/
theorem own_am (c : Dev nD) (fd : Buf (Elt F) ((amM.access (rAm 0)).loc (c : Thread nD τ))) :
    ((amM.access (rAm 0)).loc (c : Thread nD τ) ↦[(amSl 0).view.set]{fullShare}
        (amM.access (rAm 0)).write (Elt F) fd (k0_pay25 (OUT m ρ c)) Finset.univ : sProp 𝕄)
      = pts c (amSl 0) fullShare (AM m ρ c) := by
  rw [set_amSl]
  show _ = ((amM.access (rAm 0)).loc (c : Thread nD τ) ↦[(amSl 0).view.set]{fullShare} AM m ρ c : sProp 𝕄)
  rw [set_amSl]
  exact write_pts (amM.access (rAm 0)) _ _ _ _ (by rw [read_am, src_zero])

end Cert.KernelIdeal.Claims

end
-- ==== Proof.Steps.lean ====
/-
  The steps of the body, one rule each, and the loop over a list of distances.

  `recs` gathers what never changes: every cell's invariant and that its round 0 is reached. `wp_each` runs a loop
  whose iteration for distance `d` turns `P d` into `Q d`, the rest being described by the list still to do.
-/
module

public import proofs.«01_k».proof.Proof.Landing

@[expose] public section

set_option maxRecDepth 16384

noncomputable section

namespace Cert.KernelIdeal.Claims

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Sequence and loop -/

/-- A step whose effect is known, then the rest. -/
theorem wp_seq (c : Dev nD) {β : Type} {p : Prog (TpuEff nD τ sig (Elt F) Λ₀ .tc) PUnit} {k : PUnit → Prog (TpuEff nD τ sig (Elt F) Λ₀ .tc) β}
    {A B : sProp 𝕄} {Q : β → sProp 𝕄} (h : A ⊢ wpc c p (fun _ => B)) :
    A ⊢ iprop((B -∗ wpc c (k ⟨⟩) Q) -∗ wpc c (p >>= k) Q) := by
  refine h.trans ?_
  unfold wpc
  rw [wp_bind]
  iintro H Hk
  iapply (wp_wand frame _ _) $$ H
  iintro %a HB
  iapply Hk
  iexact HB

/-- A loop: the iteration for `d`, with `ds` still to do after it, takes `P d` to `Q d`. -/
theorem wp_each (c : Dev nD) {A : Type} (f : A → Prog (TpuEff nD τ sig (Elt F) Λ₀ .tc) PUnit) (I : List A → sProp 𝕄) (P Q : A → sProp 𝕄) :
    ∀ l : List A, (∀ d ds, (d :: ds) <:+ l → iprop(I (d :: ds) ∗ P d) ⊢ wpc c (f d) (fun _ => iprop(I ds ∗ Q d))) →
      iprop(I l ∗ bigSepL l P) ⊢ wpc c (each f l) (fun _ => iprop(I [] ∗ bigSepL l Q))
  | [], _ => by
    rw [bigSepL_nil, bigSepL_nil]
    show _ ⊢ wp frame _ _ (Prog.ret PUnit.unit) _
    rw [wp_ret]
    iintro H
    imodintro
    iexact H
  | d :: ds, h => by
    rw [bigSepL_cons', bigSepL_cons']
    show _ ⊢ wpc c (f d >>= fun _ => each f ds) _
    iintro ⟨HI, HP, HPs⟩
    iapply (wp_seq c (h d ds (List.suffix_refl _))) $$ [HI HP]
    · isplitl [HI] <;> iassumption
    iintro ⟨HI, HQ⟩
    iapply (wp_wand frame _ _) $$ [HI HPs]
    · iapply (wp_each c f I P Q ds fun e es he => h e es (he.trans (List.suffix_cons d ds)))
      isplitl [HI] <;> iassumption
    iintro %a ⟨HI, HQs⟩
    isplitl [HI]; · iexact HI
    isplitl [HQ] <;> iassumption

/-! ## What never changes, and what is owed -/

variable (K : Dev nD × CellIx → ℕ)

/-- Every cell's invariant, and that its round 0 is reached. -/
def recs : sProp 𝕄 :=
  bigSep Finset.univ fun ck : Dev nD × CellIx => iprop(cellInv ER (sched (F := F) m ρ) (K ck) (kcell ck) ∗ reached ER (kcell ck) 0)

instance recs_persistent : BI.Persistent (recs m ρ K) := by unfold recs; infer_instance

theorem recs_at (c : Dev nD) (i : CellIx) : recs m ρ K ⊢ iprop(cellInv ER (sched (F := F) m ρ) (K (c, i)) ((c : Thread nD τ), csem i) ∗ reached ER ((c : Thread nD τ), csem i) 0) :=
  bigSep_elim (Finset.mem_univ (c, i))

/-- The device owes `O`, whatever it has waited for. -/
def owing (c : Dev nD) (O : CellTallies nD τ sig Unit) : sProp 𝕄 := iprop(∃ W, owes (c : Thread nD τ) O W)

/-- Nothing more is due at the cell: it can close. -/
def done (g : GSem nD τ sig) : sProp 𝕄 := iprop(∃ R : ℕ, ⌜∀ r, R ≤ r → (sched (F := F) m ρ).duties g r = ∅⌝ ∗ atPos ER g R ∅ 0)

theorem done_intro (g : GSem nD τ sig) : (atPos ER g (0 + 1) ∅ 0 : sProp 𝕄) ⊢ done m ρ g := by
  unfold done
  iintro H
  iexists (0 + 1)
  isplitr
  · ipureintro; exact duties_later m ρ g
  iexact H

/-! ## The signals and the barrier -/

theorem oBar_cons (c : Dev nD) (d : Fin 16) (ds : List (Fin 16)) (R : CellTallies nD τ sig Unit) :
    oBar c (d :: ds) + R = (oBar c ds + R) + tallyAt (barCell (tgt c d)) () 1 := by
  unfold oBar; rw [List.map_cons, List.sum_cons]; abel
theorem oX_cons (c : Dev nD) (d : Fin 16) (ds : List (Fin 16)) (R : CellTallies nD τ sig Unit) :
    oX c (d :: ds) + R = (oX c ds + R) + tallyAt (recvCell (tgt c d) d) () N1 := by
  unfold oX; rw [List.map_cons, List.sum_cons]; abel
theorem oM_cons (c : Dev nD) (d : Fin 16) (ds : List (Fin 16)) (R : CellTallies nD τ sig Unit) :
    oM c (d :: ds) + R = (oM c ds + R) + tallyAt (recv2Cell (tgt c d) d) () N2 := by
  unfold oM; rw [List.map_cons, List.sum_cons]; abel

/-- What the signal to the device at distance `d` hands over: the memory of `c` that device will write. -/
def sigP (c : Dev nD) (d : Fin 16) : sProp 𝕄 :=
  iprop(dutyTok ER (barCell (tgt c d)) 0 (-d) ∗ exPts (F := F) c (xgSl (-d)) ∗ exPts (F := F) c (amSl (-d)))

theorem barPay_tgt (c : Dev nD) (d : Fin 16) : barPay (F := F) (tgt c d) (-d) = iprop(exPts (F := F) c (xgSl (-d)) ∗ exPts (F := F) c (amSl (-d))) := by
  unfold barPay
  rw [show tgt (tgt c d) (-d) = c from src_tgt c d]

theorem wp_sig (c : Dev nD) (d : Fin 16) (hd : d ≠ 0) (ds : List (Fin 16)) (R : CellTallies nD τ sig Unit) :
    iprop((recs m ρ K ∗ owing c (oBar c (d :: ds) + R)) ∗ sigP (F := F) c d)
      ⊢ wpc c (sigStep c d) (fun _ => iprop((recs m ρ K ∗ owing c (oBar c ds + R)) ∗ emp)) := by
  unfold sigStep sigP owing
  simp only [semSignalWord]
  iintro ⟨⟨#HR, ⟨%W, HO⟩⟩, HT, HX⟩
  ihave ⟨HI, Hr⟩ := (recs_at m ρ K (tgt c d) (.inl ())) $$ HR
  iapply (Rounds.wp_signal 𝒱₀ ER (sched (F := F) m ρ) (c : Thread nD τ) none (dst := (tgt c d : Thread nD τ)) (κ := K (tgt c d, .inl ()))
      (d := -d) (by rw [duties_bar]; exact Finset.mem_erase.mpr ⟨neg_ne_zero.mpr hd, Finset.mem_univ _⟩)
      ((amount_bar m ρ (tgt c d) (-d)).trans (by decide)) () (oBar c ds + R) (oBar_cons c d ds R))
    $$ [HO HT HX HI Hr]
  · isplitl [HI]; · iexact HI
    isplitl [HO]; · iexact HO
    isplitl [HT]; · iexact HT
    isplitl [HX]
    · rw [payload_bar, barPay_tgt]; iexact HX
    iexact Hr
  iintro HO
  rw [wp_ret]; imodintro
  isplitl [HO]
  · isplitr; · iexact HR
    iexists W; iexact HO
  iempintro

/-- The wait for the others' signals: the memory `c` will write at each of them. -/
theorem wp_bar (c : Dev nD) (O : CellTallies nD τ sig Unit) (hO : Above 1 O) :
    iprop(recs m ρ K ∗ owing c O ∗ levAts L lv ∗ cred (tallyAt (barCell c) () 15) ∗ atPos ER (barCell c) 0 ∅ 0)
      ⊢ wpc c barWait (fun _ => iprop(owing c O ∗ done m ρ (barCell c) ∗ bigSepL others (fun e => barPay c e))) := by
  unfold barWait owing
  simp only [semWaitWord]
  iintro ⟨#HR, ⟨%W, HO⟩, #HL, Hc, Hat⟩
  ihave ⟨HI, -⟩ := (recs_at m ρ K c (.inl ())) $$ HR
  iapply (Rounds.wp_wait_rest_token 𝒱₀ ER (sched (F := F) m ρ) (c : Thread nD τ) none (κ := K (c, .inl ()))
      (wpE_semWait_eq 𝒱₀ (c : Thread nD τ) none Set.univ) (Set.mem_univ _) () (O := O) (W := W) (R := 0) (m := 0) (T := ∅)
      (expect_bar m ρ c)) $$ [HI Hc HO Hat]
  · isplitl [HI]; · iexact HI
    isplitl [Hc]; · iexact Hc
    isplitl [HO]; · iexact HO
    isplitr; · iapply (mayWait_of c (.reg barS) 1 (by rw [tag_bar]; decide) hO); iexact HL
    iexact Hat
  iintro ⟨HO, Hat, -, Hp⟩
  rw [wp_ret]; imodintro
  isplitl [HO]; · iexists _; iexact HO
  isplitl [Hat]; · iapply (done_intro m ρ _); iexact Hat
  iapply (Entails.of_eq (rest_bar m ρ c)) $$ Hp

end Cert.KernelIdeal.Claims

end
-- ==== Proof.Transfers.lean ====
/-
  The steps of the body that move data between buffers and devices: the local copies of `w`, the blocks of `x` and
  the maxima sent around the ring, and the waits for all of them.
-/
module

public import proofs.«01_k».proof.Proof.Steps

@[expose] public section

set_option maxRecDepth 16384

noncomputable section

namespace Cert.KernelIdeal.Claims

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CellIx → ℕ)

theorem credit_xg (d : Fin 16) : (xgSl d).view.dmaCredit = N1 := rfl
theorem credit_xb (c : Dev nD) (d : Fin 16) : (xbSl c d).view.dmaCredit = N1 := by unfold N1; rfl
theorem credit_am (d : Fin 16) : (amSl d).view.dmaCredit = N2 := rfl
theorem credit_ws (d : Fin 16) : (wsSl d).view.dmaCredit = NL := rfl

/-- A wait on one of the device's transfer cells: the one duty's payload, and the cell can close. -/
theorem wp_take (c : Dev nD) (i : Fin 5 × Fin 16) {sem : DmaSem sig} (hi : osem i = .dma sem) {sp sp' : Space} {s s' : Shape} {e e' : EltTy}
    {A : Memref sig .tc sp' s' e'} {B : Memref sig .tc sp s e} {hA : A.view.WordExact} {hB : B.view.WordExact} {N : ℕ} {P : sProp 𝕄}
    (hN : B.view.dmaCredit = N) (hd : (sched (F := F) m ρ).duties ((c : Thread nD τ), .dma sem) 0 = {0})
    (ha : (sched (F := F) m ρ).amount ((c : Thread nD τ), .dma sem) 0 0 = N) (hp : (sched (F := F) m ρ).payload ((c : Thread nD τ), .dma sem) 0 0 = P)
    (n : ℕ) (hl : lvTag (tag (.dma sem)) ≤ n) (O : CellTallies nD τ sig Unit) (hO : Above n O) :
    iprop(recs m ρ K ∗ owing c O ∗ levAts L lv ∗ cred (tallyAt ((c : Thread nD τ), .dma sem) () N) ∗ atPos ER ((c : Thread nD τ), .dma sem) 0 ∅ 0)
      ⊢ wpc c (Prog.lift (.waitDma2 sem A B hA hB)) (fun _ => iprop(owing c O ∗ done m ρ ((c : Thread nD τ), .dma sem) ∗ P)) := by
  subst hN
  unfold owing
  simp only [Prog.lift]
  iintro ⟨#HR, ⟨%W, HO⟩, #HL, Hc, Hat⟩
  ihave ⟨HI, -⟩ := (recs_at m ρ K c (.inr i)) $$ HR
  rw [show csem (.inr i) = .dma sem from hi]
  iapply (Rounds.wp_wait_rest_token 𝒱₀ ER (sched (F := F) m ρ) (c : Thread nD τ) none (κ := K (c, .inr i))
      (wpE_waitDma2_eq 𝒱₀ (c : Thread nD τ) none Set.univ) (Set.mem_univ _) () (O := O) (W := W) (R := 0) (m := 0) (T := ∅)
      (expect_of m ρ _ hd ha)) $$ [HI Hc HO Hat]
  · isplitl [HI]; · iexact HI
    isplitl [Hc]; · iexact Hc
    isplitl [HO]; · iexact HO
    isplitr; · iapply (mayWait_of c (.dma sem) n hl hO); iexact HL
    iexact Hat
  iintro ⟨HO, Hat, -, Hp⟩
  rw [wp_ret]; imodintro
  isplitl [HO]; · iexists _; iexact HO
  isplitl [Hat]; · iapply (done_intro m ρ _); iexact Hat
  iapply (Entails.of_eq (rest_of m ρ _ hd hp)) $$ Hp

/-- A local copy between any two memrefs of the device, on one of its transfer cells. -/
theorem wp_push (c : Dev nD) (i : Fin 5 × Fin 16) {sem : DmaSem sig} (hi : osem i = .dma sem) {sp sp' : Space} {s : Shape} {e : EltTy}
    {A : Memref sig .tc sp s e} {B : Memref sig .tc sp' s e} {hA : A.view.WordExact} {hB : B.view.WordExact}
    {ht : DmaTarget.Typed (nD := nD) (τ := τ) (p := .tc) sp (.dma sem) (.here B)} {N : ℕ} {fs : Buf (Elt F) (A.view.loc (c : Thread nD τ))} {P : sProp 𝕄}
    (hN : B.view.dmaCredit = N) (hd : (sched (F := F) m ρ).duties ((c : Thread nD τ), .dma sem) 0 = {0})
    (ha : (sched (F := F) m ρ).amount ((c : Thread nD τ), .dma sem) 0 0 = N) (hp : (sched (F := F) m ρ).payload ((c : Thread nD τ), .dma sem) 0 0 = P)
    (hP : ∀ fd, iprop(pts c B fullShare (B.view.write (Elt F) fd (A.view.read (Elt F) fs) Finset.univ) ∗ pts c A fullShare fs) ⊢ P) :
    iprop(recs m ρ K ∗ dutyTok ER ((c : Thread nD τ), .dma sem) 0 0 ∗ exPts (F := F) c B ∗ pts c A fullShare fs)
      ⊢ wpc c (Prog.lift (.enqueueDma A (.here B) (.dma sem) hA hB ht)) (fun _ => iprop(recs m ρ K ∗ cred (tallyAt ((c : Thread nD τ), .dma sem) () N))) := by
  unfold exPts
  simp only [Prog.lift]
  iintro ⟨#HR, HT, ⟨%fd, Hd⟩, Hs⟩
  ihave ⟨HI, Hr⟩ := (recs_at m ρ K c (.inr i)) $$ HR
  rw [show csem (.inr i) = .dma sem from hi]
  iapply (Rounds.wp_copy_pointsTo 𝒱₀ ER (sched (F := F) m ρ) (c : Thread nD τ) none (κ := K (c, .inr i)) (r := 0) (d := (0 : Fin 16))
      (by rw [hd]; exact Finset.mem_singleton_self _) () N (show B.view.amount (.dma sem) = N from hN) ha ((hP fd).trans (Entails.of_eq hp.symm))) $$ [HI Hr HT Hd Hs]
  · isplitl [HI]; · iexact HI
    isplitl [Hs]; · iexact Hs
    isplitl [Hd]; · iexact Hd
    isplitl [HT] <;> iassumption
  iintro Hc
  rw [wp_ret]; imodintro
  isplitr; · iexact HR
  iexact Hc

/-- A transfer between any two memrefs to the device at distance `d`, on a cell of each. -/
theorem wp_give (c : Dev nD) (d : Fin 16) (i j : Fin 5 × Fin 16) {sem sem' : DmaSem sig} (hi : osem i = .dma sem) (hj : osem j = .dma sem')
    {sp sp' : Space} {s : Shape} {e : EltTy}
    {A : Memref sig .tc sp s e} {B : Memref sig .tc sp' s e} {hsc : B.view.ref.isScScratch = false} {hA : A.view.WordExact} {hB : B.view.WordExact}
    {ht : DmaTarget.Typed (nD := nD) (τ := τ) (p := .tc) sp (.dma sem') (.remote (Dev.tc (tgt c d)) B (.dma sem) hsc)} {N : ℕ} {q : PosShare TreeShare}
    {fs : Buf (Elt F) (A.view.loc (c : Thread nD τ))} {P' : sProp 𝕄}
    (hN : B.view.dmaCredit = N)
    (hd : (sched (F := F) m ρ).duties ((c : Thread nD τ), .dma sem) 0 = {0})
    (ha : (sched (F := F) m ρ).amount ((c : Thread nD τ), .dma sem) 0 0 = N)
    (hp : (sched (F := F) m ρ).payload ((c : Thread nD τ), .dma sem) 0 0 = pts c A q fs)
    (hd' : (sched (F := F) m ρ).duties ((tgt c d : Thread nD τ), .dma sem') 0 = {0})
    (ha' : (sched (F := F) m ρ).amount ((tgt c d : Thread nD τ), .dma sem') 0 0 = N)
    (hp' : (sched (F := F) m ρ).payload ((tgt c d : Thread nD τ), .dma sem') 0 0 = P')
    (hP : ∀ fd, pts (tgt c d) B fullShare (B.view.write (Elt F) fd (A.view.read (Elt F) fs) Finset.univ) = P')
    {O₁ : CellTallies nD τ sig Unit} (O : CellTallies nD τ sig Unit) (hO : O₁ = O + tallyAt ((tgt c d : Thread nD τ), .dma sem') () N) :
    iprop((recs m ρ K ∗ owing c O₁) ∗ dutyTok ER ((c : Thread nD τ), .dma sem) 0 0 ∗ dutyTok ER ((tgt c d : Thread nD τ), .dma sem') 0 0
        ∗ exPts (F := F) (tgt c d) B ∗ pts c A q fs)
      ⊢ wpc c (Prog.lift (.enqueueDma A (.remote (Dev.tc (tgt c d)) B (.dma sem) hsc) (.dma sem') hA hB ht))
          (fun _ => iprop((recs m ρ K ∗ owing c O) ∗ cred (tallyAt ((c : Thread nD τ), .dma sem) () N))) := by
  unfold exPts owing
  simp only [Prog.lift]
  iintro ⟨⟨#HR, ⟨%W, HO⟩⟩, HT, HT', ⟨%fd, Hd⟩, Hs⟩
  ihave ⟨HI, Hr⟩ := (recs_at m ρ K c (.inr i)) $$ HR
  ihave ⟨HI', Hr'⟩ := (recs_at m ρ K (tgt c d) (.inr j)) $$ HR
  rw [show csem (.inr i) = .dma sem from hi, show csem (.inr j) = .dma sem' from hj]
  iapply (Rounds.wp_send_pointsTo 𝒱₀ ER (sched (F := F) m ρ) (c : Thread nD τ) none (κ₁ := K (c, .inr i)) (κ₂ := K (tgt c d, .inr j))
      (r₁ := 0) (r₂ := 0) (d₁ := (0 : Fin 16)) (d₂ := (0 : Fin 16)) (fd := fd)
      (by rw [hd]; exact Finset.mem_singleton_self _) (by rw [hd']; exact Finset.mem_singleton_self _)
      () () N (show B.view.amount (.dma sem') = N from hN) ha ha' O hO (W := W) (Entails.of_eq hp.symm) (Entails.of_eq ((hP fd).trans hp'.symm))) $$ [HI Hr HI' Hr' HT HT' Hd Hs HO]
  · isplitl [HI]; · iexact HI
    isplitl [HI']; · iexact HI'
    isplitl [Hs]; · iexact Hs
    isplitl [Hd]; · iexact Hd
    isplitl [HO]; · iexact HO
    isplitl [HT]; · iexact HT
    isplitl [Hr]; · iexact Hr
    isplitl [HT'] <;> iassumption
  iintro ⟨Hc, HO⟩
  rw [wp_ret]; imodintro
  isplitl [HO]
  · isplitr; · iexact HR
    iexists W; iexact HO
  iexact Hc

/-! ## The local copies of `w` -/

/-- What starting the copy of block `d` takes. -/
def startP (c : Dev nD) (d : Fin 16) : sProp 𝕄 :=
  iprop(dutyTok ER (locCell c d) 0 0 ∗ exPts (F := F) c (wsSl d) ∗ pts c (wSl c d) fullShare (warg m ρ c))

theorem wp_start (c : Dev nD) (d : Fin 16) :
    iprop(recs m ρ K ∗ startP m ρ c d) ⊢ wpc c (wStart c d) (fun _ => iprop(recs m ρ K ∗ cred (tallyAt (locCell c d) () NL))) := by
  unfold wStart startP
  exact wp_push m ρ K c (4, d) rfl (credit_ws d) (duties_loc m ρ c d) (amount_loc m ρ c d 0) (payload_loc m ρ c d 0) (fun fd => by
    unfold locPay
    iintro ⟨Hd, Hs⟩
    isplitl [Hd]
    · iexists ((wsSl d).view.write (Elt F) fd ((wSl c d).view.read (Elt F) (warg m ρ c)) Finset.univ)
      isplitr
      · ipureintro; exact View.read_write_univ _ _
      iexact Hd
    iexact Hs)

/-! ## The blocks of `x` and the maxima -/

/-- What sending the block of `x` at distance `d` takes. -/
def sendP (c : Dev nD) (d : Fin 16) : sProp 𝕄 :=
  iprop(dutyTok ER (sendCell c d) 0 0 ∗ dutyTok ER (recvCell (tgt c d) d) 0 0 ∗ exPts (F := F) (tgt c d) (xgSl d) ∗ pts c (xbSl c d) fullShare (XB m ρ c))

theorem wp_send (c : Dev nD) (d : Fin 16) (hd : d ≠ 0) (ds : List (Fin 16)) (R : CellTallies nD τ sig Unit) :
    iprop((recs m ρ K ∗ owing c (oX c (d :: ds) + R)) ∗ sendP m ρ c d)
      ⊢ wpc c (sendStep c d) (fun _ => iprop((recs m ρ K ∗ owing c (oX c ds + R)) ∗ cred (tallyAt (sendCell c d) () N1))) := by
  unfold sendStep sendP
  exact wp_give m ρ K c d (0, d) (1, d) rfl rfl (credit_xg d) (duties_send m ρ c d hd) (amount_send m ρ c d 0) (payload_send m ρ c d 0)
    (duties_recv m ρ (tgt c d) d hd) (amount_recv m ρ (tgt c d) d 0) (payload_recv m ρ (tgt c d) d 0) (land_xg m ρ c d) _ (oX_cons c d ds R)

/-- What sending the maximum at distance `d` takes: one leaf of the share of its row. -/
def sendMaxP (c : Dev nD) (d : Fin 16) : sProp 𝕄 :=
  iprop(dutyTok ER (send2Cell c d) 0 0 ∗ dutyTok ER (recv2Cell (tgt c d) d) 0 0 ∗ exPts (F := F) (tgt c d) (amSl d) ∗ send2Pay m ρ c d)

theorem wp_sendMax (c : Dev nD) (d : Fin 16) (hd : d ≠ 0) (ds : List (Fin 16)) (R : CellTallies nD τ sig Unit) :
    iprop((recs m ρ K ∗ owing c (oM c (d :: ds) + R)) ∗ sendMaxP m ρ c d)
      ⊢ wpc c (sendMax c d) (fun _ => iprop((recs m ρ K ∗ owing c (oM c ds + R)) ∗ cred (tallyAt (send2Cell c d) () N2))) := by
  unfold sendMax sendMaxP send2Pay
  exact wp_give m ρ K c d (2, d) (3, d) rfl rfl (credit_am d) (duties_send2 m ρ c d hd) (amount_send2 m ρ c d 0) (payload_send2 m ρ c d 0)
    (duties_recv2 m ρ (tgt c d) d hd) (amount_recv2 m ρ (tgt c d) d 0) (payload_recv2 m ρ (tgt c d) d 0) (land_am m ρ c d) _ (oM_cons c d ds R)

/-- What the waits for the blocks of distance `d` take … -/
def recvP (c : Dev nD) (d : Fin 16) : sProp 𝕄 :=
  iprop(cred (tallyAt (sendCell c d) () N1) ∗ atPos ER (sendCell c d) 0 ∅ 0 ∗ cred (tallyAt (recvCell c d) () N1) ∗ atPos ER (recvCell c d) 0 ∅ 0)
/-- … and bring. -/
def recvQ (c : Dev nD) (d : Fin 16) : sProp 𝕄 :=
  iprop(done m ρ (sendCell c d) ∗ sendPay m ρ c d ∗ done m ρ (recvCell c d) ∗ recvPay m ρ c d)

theorem wp_recv (c : Dev nD) (d : Fin 16) (hd : d ≠ 0) (O : CellTallies nD τ sig Unit) (hO : Above 2 O) :
    iprop((recs m ρ K ∗ owing c O ∗ levAts L lv) ∗ recvP (F := F) c d)
      ⊢ wpc c (recvStep c d) (fun _ => iprop((recs m ρ K ∗ owing c O ∗ levAts L lv) ∗ recvQ m ρ c d)) := by
  unfold recvStep recvP recvQ
  iintro ⟨⟨#HR, HO, #HL⟩, Hc, Ha, Hc', Ha'⟩
  iapply (wp_seq c (wp_take m ρ K c (0, d) (sem := semAt cc0_scratch5 d) rfl (credit_xb c d) (duties_send m ρ c d hd) (amount_send m ρ c d 0) (payload_send m ρ c d 0)
    2 (by rw [tag_send]; exact Nat.le_of_ble_eq_true rfl) O hO)) $$ [Hc Ha HO]
  · isplitr; · iexact HR
    isplitl [HO]; · iexact HO
    isplitr; · iexact HL
    isplitl [Hc] <;> iassumption
  iintro ⟨HO, Hd, Hs⟩
  iapply (wp_wand frame _ _) $$ [Hc' Ha' HO]
  · iapply (wp_take m ρ K c (1, d) (sem := semAt cc0_scratch6 d) rfl (credit_xg d) (duties_recv m ρ c d hd) (amount_recv m ρ c d 0) (payload_recv m ρ c d 0)
      2 (by rw [tag_recv]; exact Nat.le_of_ble_eq_true rfl) O hO)
    isplitr; · iexact HR
    isplitl [HO]; · iexact HO
    isplitr; · iexact HL
    isplitl [Hc'] <;> iassumption
  iintro %a ⟨HO, Hd', Hs'⟩
  isplitl [HO]
  · isplitr; · iexact HR
    isplitl [HO]; · iexact HO
    iexact HL
  isplitl [Hd]; · iexact Hd
  isplitl [Hs]; · iexact Hs
  isplitl [Hd'] <;> iassumption

/-- What the waits for the maxima of distance `d` take … -/
def recvMaxP (c : Dev nD) (d : Fin 16) : sProp 𝕄 :=
  iprop(cred (tallyAt (send2Cell c d) () N2) ∗ atPos ER (send2Cell c d) 0 ∅ 0 ∗ cred (tallyAt (recv2Cell c d) () N2) ∗ atPos ER (recv2Cell c d) 0 ∅ 0)
/-- … and bring. -/
def recvMaxQ (c : Dev nD) (d : Fin 16) : sProp 𝕄 :=
  iprop(done m ρ (send2Cell c d) ∗ send2Pay m ρ c d ∗ done m ρ (recv2Cell c d) ∗ recv2Pay m ρ c d)

theorem wp_recvMax (c : Dev nD) (d : Fin 16) (hd : d ≠ 0) :
    iprop((recs m ρ K ∗ owing c 0 ∗ levAts L lv) ∗ recvMaxP (F := F) c d)
      ⊢ wpc c (recvMax d) (fun _ => iprop((recs m ρ K ∗ owing c 0 ∗ levAts L lv) ∗ recvMaxQ m ρ c d)) := by
  unfold recvMax recvMaxP recvMaxQ
  iintro ⟨⟨#HR, HO, #HL⟩, Hc, Ha, Hc', Ha'⟩
  iapply (wp_seq c (wp_take m ρ K c (2, d) (sem := semAt cc0_scratch7 d) rfl (credit_am 0) (duties_send2 m ρ c d hd) (amount_send2 m ρ c d 0) (payload_send2 m ρ c d 0)
    3 (by rw [tag_send2]; exact Nat.le_of_ble_eq_true rfl) 0 (Above.zero 3))) $$ [Hc Ha HO]
  · isplitr; · iexact HR
    isplitl [HO]; · iexact HO
    isplitr; · iexact HL
    isplitl [Hc] <;> iassumption
  iintro ⟨HO, Hd, Hs⟩
  iapply (wp_wand frame _ _) $$ [Hc' Ha' HO]
  · iapply (wp_take m ρ K c (3, d) (sem := semAt cc0_scratch8 d) rfl (credit_am d) (duties_recv2 m ρ c d hd) (amount_recv2 m ρ c d 0) (payload_recv2 m ρ c d 0)
      3 (by rw [tag_recv2]; exact Nat.le_of_ble_eq_true rfl) 0 (Above.zero 3))
    isplitr; · iexact HR
    isplitl [HO]; · iexact HO
    isplitr; · iexact HL
    isplitl [Hc'] <;> iassumption
  iintro %a ⟨HO, Hd', Hs'⟩
  isplitl [HO]
  · isplitr; · iexact HR
    isplitl [HO]; · iexact HO
    iexact HL
  isplitl [Hd]; · iexact Hd
  isplitl [Hs]; · iexact Hs
  isplitl [Hd'] <;> iassumption

end Cert.KernelIdeal.Claims

end
-- ==== Proof.Compute.lean ====
/-
  The steps of the body that compute on one device: converting `x` and `w`, the four products, the local maximum and
  the quantisation.
-/
module

public import proofs.«01_k».proof.Proof.Transfers

@[expose] public section

set_option maxRecDepth 16384

noncomputable section

namespace Cert.KernelIdeal.Claims

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CellIx → ℕ)

/-- A whole buffer of device `c` holding `f`. -/
abbrev holds (c : Dev nD) (b : Ref sig .tc) (f : Buf (Elt F) ((c : Thread nD τ).loc b)) : sProp 𝕄 := ((c : Thread nD τ).loc b) ↦{fullShare} f

theorem hz : (![0, 0] : Fin 2 → Nat) = fun _ => 0 := funext fun a => by fin_cases a <;> rfl

/-- Convert the device's block of `x`. -/
theorem wp_cast (c : Dev nD) :
    iprop(holds c cc0_stg0_0 (xstg m ρ c) ∗ ∃ f, holds (F := F) c cc0_scratch0 f)
      ⊢ wpc c castX (fun _ => iprop(holds c cc0_stg0_0 (xstg m ρ c) ∗ holds c cc0_scratch0 (XB m ρ c))) := by
  unfold castX
  simp only [Prog.lift, Prog.bind_op, Prog.bind_ret]
  iintro ⟨Hx, ⟨%f, Hb⟩⟩
  iapply (wp_load 𝒱₀ (c : Thread nD τ) none Set.univ (m := xM) (Finset.subset_univ _)) $$ Hx; iintro Hx
  rw [show xM.view.readAt (Elt F) rX.toLoadRect (xstg m ρ c) = xstg m ρ c from Memref.readAt_unit_zero (Elt F) cc0_stg0_0 hz _ _]
  iapply (wp_load 𝒱₀ (c : Thread nD τ) none Set.univ (m := xbM) (Finset.subset_univ _)) $$ Hb; iintro Hb
  iapply (wp_store 𝒱₀ (c : Thread nD τ) none Set.univ (m := xbM) (r := rX) (Mk := Finset.univ) (Finset.subset_univ _)) $$ Hb; iintro Hb
  rw [show ((xbM.access rX : View sig .tc _ _ _).write (Elt F) f (k0_pay1 (xstg m ρ c)) Finset.univ) = XB m ρ c from Memref.write_access_unit_zero_univ (Elt F) cc0_scratch0 hz _ _ _]
  rw [wp_ret]; imodintro
  isplitl [Hx] <;> iassumption

/-- Copy the device's own block. -/
theorem wp_own (c : Dev nD) :
    iprop(pts c (xbSl c 0) fullShare (XB m ρ c) ∗ exPts (F := F) c (xgSl 0))
      ⊢ wpc c (copyOwn c) (fun _ => iprop(pts c (xbSl c 0) fullShare (XB m ρ c) ∗ recvPay m ρ c 0)) := by
  have hs : (xbM.access (rXbOwn c)).set ⊆ (xbSl c 0).view.set := by
    refine subset_of_eq ?_
    show (xbM.view.slice (rXbOwn c)).set = (xbM.view.slice (rXb c 0)).set
    rw [show rXbOwn c = rXb c 0 from Rect.unit_congr (offOwn_eq c) _ _]
  unfold copyOwn exPts
  simp only [Prog.lift, Prog.bind_op, Prog.bind_ret]
  iintro ⟨Hx, ⟨%f, Hg⟩⟩
  iapply (wp_load_rect 𝒱₀ (c : Thread nD τ) none Set.univ (m := xbM) (r := rXbOwn c) hs) $$ Hx; iintro Hx
  iapply (wp_load_rect 𝒱₀ (c : Thread nD τ) none Set.univ (m := xgM) (r := rXg 0) (Finset.Subset.refl _)) $$ Hg; iintro Hg
  iapply (wp_store 𝒱₀ (c : Thread nD τ) none Set.univ (m := xgM) (r := rXg 0) (Mk := Finset.univ) (S := (xgM.access (rXg 0)).set) (Finset.Subset.refl _)) $$ Hg; iintro Hg
  rw [wp_ret]; imodintro
  isplitl [Hx]; · iexact Hx
  iapply (Entails.of_eq (own_xg m ρ c f)) $$ Hg

/-- A block of the converted rows of `w`, at contents left open. -/
def exWb (c : Dev nD) (d : Fin 16) : sProp 𝕄 := iprop(∃ f, ((c : Thread nD τ).loc cc0_scratch3) ↦[(wbM.access (rWb d)).set]{fullShare} f)
/-- The same, converted. -/
def wbPay (c : Dev nD) (d : Fin 16) : sProp 𝕄 := ((c : Thread nD τ).loc cc0_scratch3) ↦[(wbM.access (rWb d)).set]{fullShare} WB m ρ c

/-- What taking block `d` of `w` needs beside its credit … -/
def takeP (c : Dev nD) (d : Fin 16) : sProp 𝕄 := iprop(atPos ER (locCell c d) 0 ∅ 0 ∗ exWb (F := F) c d)
/-- … and leaves beside the slot. -/
def takeQ (c : Dev nD) (d : Fin 16) : sProp 𝕄 := iprop(done m ρ (locCell c d) ∗ wbPay m ρ c d ∗ pts c (wSl c d) fullShare (warg m ρ c))

theorem wp_wTake (c : Dev nD) (d : Fin 16) (O : CellTallies nD τ sig Unit) (hO : Above 0 O) :
    iprop((recs m ρ K ∗ owing c O ∗ levAts L lv) ∗ cred (tallyAt (locCell c d) () NL) ∗ takeP (F := F) c d)
      ⊢ wpc c (wTake c d) (fun _ => iprop((recs m ρ K ∗ owing c O ∗ levAts L lv) ∗ exPts (F := F) c (wsSl d) ∗ takeQ m ρ c d)) := by
  unfold wTake takeP takeQ exWb wbPay
  iintro ⟨⟨#HR, HO, #HL⟩, Hc, Ha, ⟨%g, Hb⟩⟩
  iapply (wp_seq c (wp_take m ρ K c (4, d) (sem := semAt cc0_scratch9 d) rfl (credit_ws d) (duties_loc m ρ c d) (amount_loc m ρ c d 0) (payload_loc m ρ c d 0)
    0 (by rw [tag_loc]; exact Nat.le_of_ble_eq_true rfl) O hO)) $$ [Hc Ha HO]
  · isplitr; · iexact HR
    isplitl [HO]; · iexact HO
    isplitr; · iexact HL
    isplitl [Hc] <;> iassumption
  unfold locPay
  iintro ⟨HO, Hd, ⟨%f, %hf, Hs⟩, Hw⟩
  simp only [Prog.lift, Prog.bind_op, Prog.bind_ret]
  iapply (wp_load_rect 𝒱₀ (c : Thread nD τ) none Set.univ (m := wsM) (r := rWs d) (subset_of_eq (set_wsSl d).symm)) $$ Hs; iintro Hs
  iapply (wp_load_rect 𝒱₀ (c : Thread nD τ) none Set.univ (m := wbM) (r := rWb d) (Finset.Subset.refl _)) $$ Hb; iintro Hb
  iapply (wp_store 𝒱₀ (c : Thread nD τ) none Set.univ (m := wbM) (r := rWb d) (Mk := Finset.univ) (S := (wbM.access (rWb d)).set) (Finset.Subset.refl _)) $$ Hb; iintro Hb
  rw [wp_ret]; imodintro
  isplitl [HO]
  · isplitr; · iexact HR
    isplitl [HO]; · iexact HO
    iexact HL
  isplitl [Hs]
  · iapply (exPts_intro c (wsSl d) f) $$ Hs
  isplitl [Hd]; · iexact Hd
  isplitl [Hb]
  · iapply (Entails.of_eq (own_wb m ρ c d g f hf)) $$ Hb
  iexact Hw

/-- What the block four places on needs to start, beside the slot. -/
def nextP (c : Dev nD) (d : Fin 16) : sProp 𝕄 := iprop(dutyTok ER (locCell c d) 0 0 ∗ pts c (wSl c d) fullShare (warg m ρ c))

theorem wp_wNext (c : Dev nD) (d : Fin 16) (O : CellTallies nD τ sig Unit) (hO : Above 0 O) :
    iprop((recs m ρ K ∗ owing c O ∗ levAts L lv) ∗ cred (tallyAt (locCell c d) () NL) ∗ takeP (F := F) c d ∗ nextP m ρ c (d + 4))
      ⊢ wpc c (wNext c d) (fun _ => iprop((recs m ρ K ∗ owing c O ∗ levAts L lv) ∗ cred (tallyAt (locCell c (d + 4)) () NL) ∗ takeQ m ρ c d)) := by
  unfold wNext nextP
  iintro ⟨⟨#HR, HO, #HL⟩, Hc, HP, HT, Hw⟩
  iapply (wp_seq c (wp_wTake m ρ K c d O hO)) $$ [HO Hc HP]
  · isplitl [HO]
    · isplitr; · iexact HR
      isplitl [HO]; · iexact HO
      iexact HL
    isplitl [Hc] <;> iassumption
  iintro ⟨⟨-, HO, -⟩, Hs, HQ⟩
  iapply (wp_wand frame _ _) $$ [HT Hs Hw]
  · iapply (wp_start m ρ K c (d + 4))
    unfold startP
    isplitr; · iexact HR
    isplitl [HT]; · iexact HT
    isplitl [Hs]; · rw [wsSl_next]; iexact Hs
    iexact Hw
  iintro %a ⟨-, Hc⟩
  isplitl [HO]
  · isplitr; · iexact HR
    isplitl [HO]; · iexact HO
    iexact HL
  isplitl [Hc] <;> iassumption

/-! ## The products -/

theorem read_out (X : (cc0_stg1_0 : Ref sig .tc).ty.Contents (Elt F)) : outM.view.readAt (Elt F) rOut.toLoadRect X = X :=
  Memref.readAt_unit_zero (Elt F) cc0_stg1_0 hz _ _
theorem write_out (f X : (cc0_stg1_0 : Ref sig .tc).ty.Contents (Elt F)) : (outM.access rOut : View sig .tc _ _ _).write (Elt F) f X Finset.univ = X :=
  Memref.write_access_unit_zero_univ (Elt F) cc0_stg1_0 hz _ _ _

/-- The columns quarter `g` multiplies, on device `c`. -/
def xgQuarter (c : Dev nD) (g : Fin 4) : sProp 𝕄 := ((c : Thread nD τ).loc cc0_scratch1) ↦[(xgM.access (rXgG g)).set]{fullShare} XG m ρ c

/-- The first product. -/
theorem wp_dotFirst (c : Dev nD) :
    iprop(xgQuarter m ρ c 0 ∗ holds c cc0_scratch3 (WB m ρ c) ∗ ∃ f, holds (F := F) c cc0_stg1_0 f)
      ⊢ wpc c dotFirst (fun _ => iprop(xgQuarter m ρ c 0 ∗ holds c cc0_scratch3 (WB m ρ c) ∗ holds c cc0_stg1_0 (OUT0 m ρ c))) := by
  unfold dotFirst xgQuarter
  simp only [Prog.lift, Prog.bind_op, Prog.bind_ret]
  iintro ⟨Hx, Hw, ⟨%f, Ho⟩⟩
  iapply (wp_load_rect 𝒱₀ (c : Thread nD τ) none Set.univ (m := xgM) (r := rXgG 0) (Finset.Subset.refl _)) $$ Hx; iintro Hx
  iapply (wp_load_rect 𝒱₀ (c : Thread nD τ) none Set.univ (m := wbM) (r := rWbG 0) (Finset.subset_univ _)) $$ Hw; iintro Hw
  iapply (wp_load 𝒱₀ (c : Thread nD τ) none Set.univ (m := outM) (Finset.subset_univ _)) $$ Ho; iintro Ho
  iapply (wp_store 𝒱₀ (c : Thread nD τ) none Set.univ (m := outM) (r := rOut) (Mk := Finset.univ) (Finset.subset_univ _)) $$ Ho; iintro Ho
  rw [wp_ret]; imodintro
  isplitl [Hx]; · iexact Hx
  isplitl [Hw]; · iexact Hw
  rw [write_out]
  iexact Ho

/-- A later product, added to `X`. -/
theorem wp_dotAdd (c : Dev nD) (g : Fin 4) (X : (cc0_stg1_0 : Ref sig .tc).ty.Contents (Elt F)) :
    iprop(xgQuarter m ρ c g ∗ holds c cc0_scratch3 (WB m ρ c) ∗ holds c cc0_stg1_0 X)
      ⊢ wpc c (dotAdd g) (fun _ => iprop(xgQuarter m ρ c g ∗ holds c cc0_scratch3 (WB m ρ c) ∗ holds c cc0_stg1_0 (k0_pay22 (XQ m ρ c g) (WQ m ρ c g) X))) := by
  unfold dotAdd xgQuarter
  simp only [Prog.lift, Prog.bind_op, Prog.bind_ret]
  iintro ⟨Hx, Hw, Ho⟩
  iapply (wp_load_rect 𝒱₀ (c : Thread nD τ) none Set.univ (m := xgM) (r := rXgG g) (Finset.Subset.refl _)) $$ Hx; iintro Hx
  iapply (wp_load_rect 𝒱₀ (c : Thread nD τ) none Set.univ (m := wbM) (r := rWbG g) (Finset.subset_univ _)) $$ Hw; iintro Hw
  iapply (wp_load 𝒱₀ (c : Thread nD τ) none Set.univ (m := outM) (Finset.subset_univ _)) $$ Ho; iintro Ho
  iapply (wp_load 𝒱₀ (c : Thread nD τ) none Set.univ (m := outM) (Finset.subset_univ _)) $$ Ho; iintro Ho
  iapply (wp_store 𝒱₀ (c : Thread nD τ) none Set.univ (m := outM) (r := rOut) (Mk := Finset.univ) (Finset.subset_univ _)) $$ Ho; iintro Ho
  rw [wp_ret]; imodintro
  isplitl [Hx]; · iexact Hx
  isplitl [Hw]; · iexact Hw
  rw [write_out, read_out]
  iexact Ho

/-! ## The maximum and the quantisation -/

theorem wp_localMax (c : Dev nD) :
    iprop(holds c cc0_stg1_0 (OUT m ρ c) ∗ exPts (F := F) c (amSl 0))
      ⊢ wpc c localMax (fun _ => iprop(holds c cc0_stg1_0 (OUT m ρ c) ∗ pts c (amSl 0) fullShare (AM m ρ c))) := by
  unfold localMax exPts
  simp only [Prog.lift, Prog.bind_op, Prog.bind_ret]
  iintro ⟨Ho, ⟨%f, Ha⟩⟩
  iapply (wp_load 𝒱₀ (c : Thread nD τ) none Set.univ (m := outM) (Finset.subset_univ _)) $$ Ho; iintro Ho
  rw [read_out]
  iapply (wp_load_rect 𝒱₀ (c : Thread nD τ) none Set.univ (m := amM) (r := rAm 0) (subset_of_eq (set_amSl 0).symm)) $$ Ha; iintro Ha
  iapply (wp_store 𝒱₀ (c : Thread nD τ) none Set.univ (m := amM) (r := rAm 0) (Mk := Finset.univ) (subset_of_eq (set_amSl 0).symm)) $$ Ha; iintro Ha
  rw [wp_ret]; imodintro
  isplitl [Ho]; · iexact Ho
  iapply (Entails.of_eq (own_am m ρ c f)) $$ Ha

theorem wp_quantise (c : Dev nD) :
    iprop(holds c cc0_stg1_0 (OUT m ρ c) ∗ holds c cc0_scratch4 (AM m ρ c))
      ⊢ wpc c quantise (fun _ => iprop(holds c cc0_stg1_0 (outAt m ρ c) ∗ holds c cc0_scratch4 (AM m ρ c))) := by
  unfold quantise
  simp only [Prog.lift, Prog.bind_op, Prog.bind_ret]
  iintro ⟨Ho, Ha⟩
  iapply (wp_load 𝒱₀ (c : Thread nD τ) none Set.univ (m := amM) (Finset.subset_univ _)) $$ Ha; iintro Ha
  rw [show amM.view.readAt (Elt F) rAmAll.toLoadRect (AM m ρ c) = AM m ρ c from Memref.readAt_unit_zero (Elt F) cc0_scratch4 hz _ _]
  iapply (wp_load 𝒱₀ (c : Thread nD τ) none Set.univ (m := outM) (Finset.subset_univ _)) $$ Ho; iintro Ho
  iapply (wp_load 𝒱₀ (c : Thread nD τ) none Set.univ (m := outM) (Finset.subset_univ _)) $$ Ho; iintro Ho
  iapply (wp_store 𝒱₀ (c : Thread nD τ) none Set.univ (m := outM) (r := rOut) (Mk := Finset.univ) (Finset.subset_univ _)) $$ Ho; iintro Ho
  rw [wp_ret]; imodintro
  isplitl [Ho]
  · rw [write_out, read_out]; iexact Ho
  iexact Ha

end Cert.KernelIdeal.Claims

end
-- ==== Proof.Loops.lean ====
/-
  The loops of the body, one rule each, built from the steps.
-/
module

public import proofs.«01_k».proof.Proof.Compute

@[expose] public section

set_option maxRecDepth 16384

noncomputable section

namespace Cert.KernelIdeal.Claims

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Lists of resources -/

theorem list_split {A : Type} (P Q : A → sProp 𝕄) : ∀ l : List A, bigSepL l (fun i => iprop(P i ∗ Q i)) ⊢ iprop(bigSepL l P ∗ bigSepL l Q)
  | [] => by
    rw [bigSepL_nil, bigSepL_nil, bigSepL_nil]
    iintro H
    isplitl [H]; · iexact H
    iempintro
  | a :: l => by
    rw [bigSepL_cons', bigSepL_cons', bigSepL_cons']
    iintro ⟨⟨HP, HQ⟩, H⟩
    ihave ⟨Hs, Ht⟩ := (list_split P Q l) $$ H
    isplitl [HP Hs]
    · isplitl [HP] <;> iassumption
    isplitl [HQ] <;> iassumption

theorem list_join {A : Type} (P Q : A → sProp 𝕄) : ∀ l : List A, iprop(bigSepL l P ∗ bigSepL l Q) ⊢ bigSepL l (fun i => iprop(P i ∗ Q i))
  | [] => by
    rw [bigSepL_nil, bigSepL_nil, bigSepL_nil]
    iintro ⟨H, -⟩
    iexact H
  | a :: l => by
    rw [bigSepL_cons', bigSepL_cons', bigSepL_cons']
    iintro ⟨⟨HP, Hs⟩, HQ, Ht⟩
    isplitl [HP HQ]
    · isplitl [HP] <;> iassumption
    iapply (list_join P Q l)
    isplitl [Hs] <;> iassumption

theorem others_ne : ∀ d ∈ others, d ≠ 0 := by decide

/-- The other distances may be counted backwards. -/
theorem others_neg (Φ : Fin 16 → sProp 𝕄) : bigSepL others (fun d => Φ (-d)) = bigSepL others Φ :=
  (bigSepL_map (fun d : Fin 16 => -d) others Φ).symm.trans (TalkSites.bigSepL_perm (by decide) (by decide) Φ)

theorem suffix_mem {A : Type} {d : A} {ds l : List A} (h : (d :: ds) <:+ l) : d ∈ l := h.subset List.mem_cons_self

variable (m : (ℓ : Loc nD τ sig) → Buf (Elt F) ℓ) (ρ : Dev nD → PrngReg)
variable (K : Dev nD × CellIx → ℕ)

/-- A step's effect, weakened. -/
theorem wp_post (c : Dev nD) {p : Prog (TpuEff nD τ sig (Elt F) Λ₀ .tc) PUnit} {A B B' : sProp 𝕄}
    (h : A ⊢ wpc c p (fun _ => B)) (hb : B ⊢ B') : A ⊢ wpc c p (fun _ => B') := by
  refine h.trans ?_
  iintro H
  iapply (wp_wand frame _ _) $$ H
  iintro %a HB
  iapply hb
  iexact HB

/-- What the waits need and keep. -/
abbrev base (c : Dev nD) (O : CellTallies nD τ sig Unit) : sProp 𝕄 := iprop(recs m ρ K ∗ owing c O ∗ levAts L lv)

abbrev credL (c : Dev nD) (d : Fin 16) : sProp 𝕄 := cred (tallyAt (locCell c d) () NL)

theorem sig_loop (c : Dev nD) (R : CellTallies nD τ sig Unit) :
    iprop((recs m ρ K ∗ owing c (oBar c others + R)) ∗ bigSepL others (sigP (F := F) c))
      ⊢ wpc c (each (sigStep c) others) (fun _ => iprop(owing c R)) :=
  wp_post c (wp_each c (sigStep c) (fun ds => iprop(recs m ρ K ∗ owing c (oBar c ds + R))) (sigP (F := F) c) (fun _ => iprop(emp)) others
    (fun d ds h => wp_sig m ρ K c d (others_ne d (suffix_mem h)) ds R)) (by
      rw [show oBar c [] + R = R from zero_add R]
      iintro ⟨⟨-, H⟩, -⟩
      iexact H)

theorem start_loop (c : Dev nD) :
    iprop(recs m ρ K ∗ bigSepL slots (startP m ρ c)) ⊢ wpc c (each (wStart c) slots) (fun _ => bigSepL slots (credL (F := F) c)) :=
  wp_post c (wp_each c (wStart c) (fun _ => recs m ρ K) (startP m ρ c) (credL (F := F) c) slots (fun d ds h => wp_start m ρ K c d)) (by
    iintro ⟨-, H⟩
    iexact H)

theorem send_loop (c : Dev nD) (R : CellTallies nD τ sig Unit) :
    iprop((recs m ρ K ∗ owing c (oX c others + R)) ∗ bigSepL others (sendP m ρ c))
      ⊢ wpc c (each (sendStep c) others) (fun _ => iprop(owing c R ∗ bigSepL others fun d => cred (tallyAt (sendCell c d) () N1))) :=
  wp_post c (wp_each c (sendStep c) (fun ds => iprop(recs m ρ K ∗ owing c (oX c ds + R))) (sendP m ρ c) _ others
    (fun d ds h => wp_send m ρ K c d (others_ne d (suffix_mem h)) ds R)) (by
      rw [show oX c [] + R = R from zero_add R]
      iintro ⟨⟨-, H⟩, H'⟩
      isplitl [H] <;> iassumption)

theorem sendMax_loop (c : Dev nD) :
    iprop((recs m ρ K ∗ owing c (oM c others)) ∗ bigSepL others (sendMaxP m ρ c))
      ⊢ wpc c (each (sendMax c) others) (fun _ => iprop(owing c 0 ∗ bigSepL others fun d => cred (tallyAt (send2Cell c d) () N2))) := by
  rw [show oM c others = oM c others + 0 from (add_zero _).symm]
  exact wp_post c (wp_each c (sendMax c) (fun ds => iprop(recs m ρ K ∗ owing c (oM c ds + 0))) (sendMaxP m ρ c) _ others
    (fun d ds h => wp_sendMax m ρ K c d (others_ne d (suffix_mem h)) ds 0)) (by
      rw [show oM c [] + 0 = 0 from zero_add 0]
      iintro ⟨⟨-, H⟩, H'⟩
      isplitl [H] <;> iassumption)

theorem recvMax_loop (c : Dev nD) :
    iprop(base m ρ K c 0 ∗ bigSepL others (recvMaxP (F := F) c))
      ⊢ wpc c (each recvMax others) (fun _ => iprop(base m ρ K c 0 ∗ bigSepL others (recvMaxQ m ρ c))) :=
  wp_each c recvMax (fun _ => base m ρ K c 0) (recvMaxP (F := F) c) (recvMaxQ m ρ c) others
    (fun d ds h => wp_recvMax m ρ K c d (others_ne d (suffix_mem h)))

/-- The first twelve blocks of `w` and the last four. -/
abbrev firsts : List (Fin 16) := [0, 1, 2, 3, 4, 5, 6, 7, 8, 9, 10, 11]
abbrev lasts : List (Fin 16) := [12, 13, 14, 15]

/-- The window of four copies in flight moves by one. -/
theorem window_next : ∀ l ∈ firsts.tails, l ≠ [] →
    (l ++ lasts).take 4 = l.headI :: (l.tail ++ lasts).take 3 ∧ (l.tail ++ lasts).take 4 = (l.tail ++ lasts).take 3 ++ [l.headI + 4] := by decide

theorem next_loop (c : Dev nD) (O : CellTallies nD τ sig Unit) (hO : Above 0 O) :
    iprop((base m ρ K c O ∗ bigSepL slots (credL (F := F) c)) ∗ bigSepL firsts (fun d => iprop(takeP (F := F) c d ∗ nextP m ρ c (d + 4))))
      ⊢ wpc c (each (wNext c) firsts) (fun _ => iprop((base m ρ K c O ∗ bigSepL lasts (credL (F := F) c)) ∗ bigSepL firsts (takeQ m ρ c))) :=
  wp_each c (wNext c) (fun l => iprop(base m ρ K c O ∗ bigSepL ((l ++ lasts).take 4) (credL (F := F) c)))
    (fun d => iprop(takeP (F := F) c d ∗ nextP m ρ c (d + 4))) (takeQ m ρ c) firsts (fun d ds h => by
      obtain ⟨h1, h2⟩ := window_next (d :: ds) ((List.mem_tails _ _).mpr h) (List.cons_ne_nil _ _)
      rw [h1, show ds = (d :: ds).tail from rfl, h2]
      show iprop((base m ρ K c O ∗ bigSepL (d :: (ds ++ lasts).take 3) (credL (F := F) c)) ∗ takeP (F := F) c d ∗ nextP m ρ c (d + 4))
        ⊢ wpc c (wNext c d) (fun _ => iprop((base m ρ K c O ∗ bigSepL ((ds ++ lasts).take 3 ++ [d + 4]) (credL (F := F) c)) ∗ takeQ m ρ c d))
      rw [bigSepL_cons', bigSepL_append, bigSepL_singleton]
      iintro ⟨⟨HB, Hc, Hcs⟩, HP, HN⟩
      iapply (wp_wand frame _ _) $$ [HB Hc HP HN]
      · iapply (wp_wNext m ρ K c d O hO)
        isplitl [HB]; · iexact HB
        isplitl [Hc]; · iexact Hc
        isplitl [HP] <;> iassumption
      iintro %a ⟨HB, Hc, HQ⟩
      isplitl [HB Hc Hcs]
      · isplitl [HB]; · iexact HB
        isplitl [Hcs] <;> iassumption
      iexact HQ)

theorem wsSl_twelve : ∀ d ∈ slots, wsSl (d + 12) = wsSl d := fun d _ => by
  rw [show d + 12 = (d + 4) + 4 + 4 from by revert d; decide, wsSl_next, wsSl_next, wsSl_next]

theorem take_loop (c : Dev nD) (O : CellTallies nD τ sig Unit) (hO : Above 0 O) :
    iprop(base m ρ K c O ∗ bigSepL lasts (credL (F := F) c) ∗ bigSepL lasts (takeP (F := F) c))
      ⊢ wpc c (each (wTake c) lasts) (fun _ => iprop(base m ρ K c O ∗ bigSepL slots (fun d => exPts (F := F) c (wsSl d)) ∗ bigSepL lasts (takeQ m ρ c))) := by
  refine BIBase.Entails.trans ?_ (wp_post c (wp_each c (wTake c) (fun _ => base m ρ K c O) (fun d => iprop(credL (F := F) c d ∗ takeP (F := F) c d))
    (fun d => iprop(exPts (F := F) c (wsSl d) ∗ takeQ m ρ c d)) lasts (fun d ds h => wp_wTake m ρ K c d O hO)) ?_)
  · iintro ⟨HB, H⟩
    isplitl [HB]; · iexact HB
    iapply (list_join _ _ _) $$ H
  · iintro ⟨HB, H⟩
    isplitl [HB]; · iexact HB
    ihave ⟨Hs, Ht⟩ := (list_split _ _ _) $$ H
    isplitl [Hs]
    · iapply ((Entails.of_eq (bigSepL_map (fun d : Fin 16 => d + 12) slots (fun d => exPts (F := F) c (wsSl d)))).trans
        (bigSepL_mono fun d hd => Entails.of_eq (by rw [wsSl_twelve d hd])))
      iexact Hs
    iexact Ht

/-- What the waits for a block bring beside the block. -/
def recvR (c : Dev nD) (d : Fin 16) : sProp 𝕄 := iprop(done m ρ (sendCell c d) ∗ sendPay m ρ c d ∗ done m ρ (recvCell c d))

theorem recv_loop (c : Dev nD) (O : CellTallies nD τ sig Unit) (hO : Above 2 O) (l : List (Fin 16)) (hl : ∀ d ∈ l, d ≠ 0) :
    iprop(base m ρ K c O ∗ bigSepL l (recvP (F := F) c))
      ⊢ wpc c (each (recvStep c) l) (fun _ => iprop(base m ρ K c O ∗ bigSepL l (recvR m ρ c) ∗ bigSepL l (recvPay m ρ c))) := by
  refine wp_post c (wp_each c (recvStep c) (fun _ => base m ρ K c O) (recvP (F := F) c)
    (recvQ m ρ c) l (fun d ds h => wp_recv m ρ K c d (hl d (suffix_mem h)) O hO)) ?_
  iintro ⟨HB, H⟩
  isplitl [HB]; · iexact HB
  iapply (list_split _ _ _)
  iapply (bigSepL_mono (fun d _ => ?_)) $$ H
  unfold recvQ recvR
  iintro ⟨H1, H2, H3, H4⟩
  isplitr [H4]
  · isplitl [H1]; · iexact H1
    isplitl [H2] <;> iassumption
  iexact H4

/-- A quarter after the first: its blocks, then its product added to `X`. -/
theorem quarter_step (c : Dev nD) (O : CellTallies nD τ sig Unit) (hO : Above 2 O) (g : Fin 4) (l : List (Fin 16)) (hl : ∀ d ∈ l, d ≠ 0)
    (hg : ((List.finRange 4).map fun e : Fin 4 => (⟨4 * g.val + e.val, by omega⟩ : Fin 16)) = l) (X : (cc0_stg1_0 : Ref sig .tc).ty.Contents (Elt F)) :
    iprop(base m ρ K c O ∗ bigSepL l (recvP (F := F) c) ∗ holds c cc0_scratch3 (WB m ρ c) ∗ holds c cc0_stg1_0 X)
      ⊢ wpc c (quarter c g l) (fun _ => iprop(base m ρ K c O ∗ bigSepL l (recvR m ρ c) ∗ xgQuarter m ρ c g ∗ holds c cc0_scratch3 (WB m ρ c)
          ∗ holds c cc0_stg1_0 (k0_pay22 (XQ m ρ c g) (WQ m ρ c g) X))) := by
  unfold quarter
  iintro ⟨HB, HP, HW, HX⟩
  iapply (wp_seq c (recv_loop m ρ K c O hO l hl)) $$ [HB HP]
  · isplitl [HB] <;> iassumption
  iintro ⟨HB, HR, Hg⟩
  iapply (wp_wand frame _ _) $$ [Hg HW HX]
  · iapply (wp_dotAdd m ρ c g X)
    isplitl [Hg]
    · unfold xgQuarter
      rw [xg_quarter, hg]
      iexact Hg
    isplitl [HW] <;> iassumption
  iintro %a ⟨Hg, HW, HX⟩
  isplitl [HB]; · iexact HB
  isplitl [HR]; · iexact HR
  isplitl [Hg]; · iexact Hg
  isplitl [HW] <;> iassumption

end Cert.KernelIdeal.Claims

end
-- ==== Proof.Body.lean ====
/-
  The body of the kernel on one device, from the loops and the steps between them.

  A device starts with its position at each of its cells, the tokens of the duties it pays, the credit for the wait
  at its barrier and for the blocks and maxima that arrive, and its own memory. It ends owing nothing, with the
  result, its arguments as they were, and every one of its cells ready to close.
-/
module

public import proofs.«01_k».proof.Proof.Loops

@[expose] public section

set_option maxRecDepth 16384

noncomputable section

namespace Cert.KernelIdeal.Claims

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CellIx → ℕ)

/-! ## What a device starts from -/

/-- Something at every cell of a device is that thing at the barrier and along the five arrays. -/
theorem cells_list (Φ : CellIx → sProp 𝕄) : bigSep Finset.univ Φ
    = iprop(Φ (.inl ()) ∗ bigSepL all16 (fun d => Φ (.inr (0, d))) ∗ bigSepL all16 (fun d => Φ (.inr (1, d))) ∗ bigSepL all16 (fun d => Φ (.inr (2, d)))
        ∗ bigSepL all16 (fun d => Φ (.inr (3, d))) ∗ bigSepL all16 (fun d => Φ (.inr (4, d)))) := by
  rw [bigSep_univ_sum, bigSep_univ_prod, bigSep_univ_eq_bigSepL [()] (by decide) (by decide), bigSep_univ_eq_bigSepL [0, 1, 2, 3, 4] (by decide) (by decide)]
  simp only [bigSep_all16]
  rfl

/-- The device's positions, one at each of its cells. -/
def poss (c : Dev nD) : sProp 𝕄 := bigSep Finset.univ fun i : CellIx => atPos ER (kcell (c, i)) 0 ∅ 0

/-- The tokens of the duties the device pays. -/
def toks (c : Dev nD) : sProp 𝕄 :=
  iprop(bigSepL others (fun d => dutyTok ER (barCell (tgt c d)) 0 (-d))
    ∗ bigSepL others (fun d => dutyTok ER (sendCell c d) 0 0) ∗ bigSepL others (fun d => dutyTok ER (recvCell (tgt c d) d) 0 0)
    ∗ bigSepL others (fun d => dutyTok ER (send2Cell c d) 0 0) ∗ bigSepL others (fun d => dutyTok ER (recv2Cell (tgt c d) d) 0 0)
    ∗ bigSepL all16 (fun d => dutyTok ER (locCell c d) 0 0))

/-- The credit a device has at launch. -/
def creds (c : Dev nD) : sProp 𝕄 :=
  iprop(cred (tallyAt (barCell c) () 15) ∗ bigSepL others (fun d => cred (tallyAt (recvCell c d) () N1)) ∗ bigSepL others (fun d => cred (tallyAt (recv2Cell c d) () N2)))

/-- All the device's cells are ready to close. -/
def dones (c : Dev nD) : sProp 𝕄 := bigSep Finset.univ fun i : CellIx => done m ρ (kcell (c, i))

/-- The five scratch buffers, whatever they hold. -/
def scratches (c : Dev nD) : sProp 𝕄 :=
  iprop((∃ f, holds (F := F) c cc0_scratch0 f) ∗ (∃ f, holds (F := F) c cc0_scratch1 f) ∗ (∃ f, holds (F := F) c cc0_scratch2 f)
    ∗ (∃ f, holds (F := F) c cc0_scratch3 f) ∗ ∃ f, holds (F := F) c cc0_scratch4 f)

/-- A cell of the first four arrays at distance 0 is never used. -/
theorem done_unused (c : Dev nD) (k : Fin 5) (hk : k ≠ 4) : (atPos ER (kcell (c, .inr (k, 0))) 0 ∅ 0 : sProp 𝕄) ⊢ done m ρ (kcell (c, .inr (k, 0))) := by
  unfold done
  iintro H
  iexists 0
  isplitr
  · ipureintro
    intro r _
    rcases Nat.eq_zero_or_pos r with h | h
    · subst h
      rw [show kcell (c, (.inr (k, 0) : CellIx)) = ((c : Thread nD τ), csem (.inr (k, 0))) from rfl, duties_tc, tag_csem]
      exact if_neg fun h => h.elim hk fun h => h rfl
    · exact duties_later m ρ _ r h
  iexact H

/-! ## Memory, in pieces -/

theorem all16_halves (Φ : Fin 16 → sProp 𝕄) : bigSepL all16 Φ = iprop(bigSepL firsts Φ ∗ bigSepL lasts Φ) := bigSepL_append firsts lasts Φ
theorem all16_slots (Φ : Fin 16 → sProp 𝕄) : bigSepL all16 Φ = iprop(bigSepL slots Φ ∗ bigSepL firsts (fun d => Φ (d + 4))) := by
  rw [← bigSepL_map (fun d : Fin 16 => d + 4) firsts Φ]
  exact bigSepL_append slots (firsts.map fun d => d + 4) Φ
theorem others_quarters (Φ : Fin 16 → sProp 𝕄) : bigSepL others Φ
    = iprop(bigSepL [1, 2, 3] Φ ∗ bigSepL [4, 5, 6, 7] Φ ∗ bigSepL [8, 9, 10, 11] Φ ∗ bigSepL lasts Φ) := by
  rw [← bigSepL_append, ← bigSepL_append, ← bigSepL_append]
  rfl

theorem open_xg (c : Dev nD) : (iprop(∃ f, holds (F := F) c cc0_scratch1 f) : sProp 𝕄) ⊢ iprop(exPts (F := F) c (xgSl 0) ∗ bigSepL others fun d => exPts (F := F) c (xgSl d)) := by
  iintro ⟨%f, H⟩
  iapply (((Entails.of_eq (xg_blocks c f)).trans (bigSepL_mono fun d _ => exPts_intro c (xgSl d) f)).trans (Entails.of_eq (bigSepL_cons' _ _ _))) $$ H

theorem open_am (c : Dev nD) : (iprop(∃ f, holds (F := F) c cc0_scratch4 f) : sProp 𝕄) ⊢ iprop(exPts (F := F) c (amSl 0) ∗ bigSepL others fun d => exPts (F := F) c (amSl d)) := by
  iintro ⟨%f, H⟩
  iapply (((Entails.of_eq (am_rows c f)).trans (bigSepL_mono fun d _ => exPts_intro c (amSl d) f)).trans (Entails.of_eq (bigSepL_cons' _ _ _))) $$ H

theorem exWb_intro (c : Dev nD) (d : Fin 16) (f : Buf (Elt F) ((c : Thread nD τ).loc cc0_scratch3)) :
    (((c : Thread nD τ).loc cc0_scratch3) ↦[(wbM.access (rWb d)).set]{fullShare} f : sProp 𝕄) ⊢ exWb (F := F) c d := by
  unfold exWb
  iintro H
  iexists f
  iexact H

theorem open_wb (c : Dev nD) : (iprop(∃ f, holds (F := F) c cc0_scratch3 f) : sProp 𝕄) ⊢ bigSepL all16 (exWb (F := F) c) := by
  iintro ⟨%f, H⟩
  iapply ((Entails.of_eq (wb_blocks c f)).trans (bigSepL_mono fun d _ => exWb_intro c d f)) $$ H

theorem open_ws (c : Dev nD) : (iprop(∃ f, holds (F := F) c cc0_scratch2 f) : sProp 𝕄) ⊢ bigSepL slots (fun d => exPts (F := F) c (wsSl d)) := by
  iintro ⟨%f, H⟩
  iapply (ws_split c f) $$ H

theorem quarter_list (c : Dev nD) (g : Fin 4) (l : List (Fin 16)) (hg : ((List.finRange 4).map fun e : Fin 4 => (⟨4 * g.val + e.val, by omega⟩ : Fin 16)) = l) :
    xgQuarter m ρ c g = bigSepL l (recvPay m ρ c) := by
  unfold xgQuarter recvPay
  rw [xg_quarter, hg]

theorem xg_whole (c : Dev nD) : iprop(xgQuarter m ρ c 0 ∗ xgQuarter m ρ c 1 ∗ xgQuarter m ρ c 2 ∗ xgQuarter m ρ c 3) ⊢ (iprop(∃ f, holds (F := F) c cc0_scratch1 f) : sProp 𝕄) := by
  rw [quarter_list m ρ c 0 [0, 1, 2, 3] (by decide), quarter_list m ρ c 1 [4, 5, 6, 7] (by decide), quarter_list m ρ c 2 [8, 9, 10, 11] (by decide), quarter_list m ρ c 3 [12, 13, 14, 15] (by decide),
    ← bigSepL_append, ← bigSepL_append, ← bigSepL_append]
  iintro H
  iexists XG m ρ c
  iapply (Entails.of_eq (xg_blocks c (XG m ρ c)).symm)
  iexact H

/-- The row of the device's own maximum, leaf by leaf. -/
theorem am_leaves (c : Dev nD) : pts c (amSl 0) fullShare (AM m ρ c) = bigSepL all16 (send2Pay m ρ c) := by
  rw [← bigSep_all16]
  exact ShareLeaves.pointsTo_leaves _ _ 4 fullShare

/-! ## What each loop takes -/

theorem sig_intro (c : Dev nD) :
    iprop(bigSepL others (fun d => dutyTok ER (barCell (tgt c d)) 0 (-d)) ∗ bigSepL others (fun d => exPts (F := F) c (xgSl d)) ∗ bigSepL others (fun d => exPts (F := F) c (amSl d)))
      ⊢ bigSepL others (sigP (F := F) c) := by
  rw [← others_neg fun d => exPts (F := F) c (xgSl d), ← others_neg fun d => exPts (F := F) c (amSl d)]
  unfold sigP
  iintro ⟨HT, HX, HA⟩
  iapply (list_join _ _ _)
  isplitl [HT]; · iexact HT
  iapply (list_join _ _ _)
  isplitl [HX] <;> iassumption

theorem start_intro₀ (c : Dev nD) :
    iprop(bigSepL slots (fun d => dutyTok ER (locCell c d) 0 0) ∗ bigSepL slots (fun d => exPts (F := F) c (wsSl d)) ∗ bigSepL slots (fun d => pts c (wSl c d) fullShare (warg m ρ c)))
      ⊢ bigSepL slots (startP m ρ c) := by
  unfold startP
  iintro ⟨HT, HX, HA⟩
  iapply (list_join _ _ _)
  isplitl [HT]; · iexact HT
  iapply (list_join _ _ _)
  isplitl [HX] <;> iassumption

theorem bar_elim (c : Dev nD) : bigSepL others (fun e => barPay (F := F) c e)
    ⊢ iprop(bigSepL others (fun d => exPts (F := F) (tgt c d) (xgSl d)) ∗ bigSepL others (fun d => exPts (F := F) (tgt c d) (amSl d))) := by
  unfold barPay
  exact list_split _ _ _

theorem send_intro (c : Dev nD) :
    iprop(bigSepL others (fun d => dutyTok ER (sendCell c d) 0 0) ∗ bigSepL others (fun d => dutyTok ER (recvCell (tgt c d) d) 0 0)
        ∗ bigSepL others (fun d => exPts (F := F) (tgt c d) (xgSl d)) ∗ bigSepL others (fun d => pts c (xbSl c d) fullShare (XB m ρ c)))
      ⊢ bigSepL others (sendP m ρ c) := by
  unfold sendP
  iintro ⟨HT, HT', HX, HA⟩
  iapply (list_join _ _ _)
  isplitl [HT]; · iexact HT
  iapply (list_join _ _ _)
  isplitl [HT']; · iexact HT'
  iapply (list_join _ _ _)
  isplitl [HX] <;> iassumption

theorem sendMax_intro (c : Dev nD) :
    iprop(bigSepL others (fun d => dutyTok ER (send2Cell c d) 0 0) ∗ bigSepL others (fun d => dutyTok ER (recv2Cell (tgt c d) d) 0 0)
        ∗ bigSepL others (fun d => exPts (F := F) (tgt c d) (amSl d)) ∗ bigSepL others (send2Pay m ρ c))
      ⊢ bigSepL others (sendMaxP m ρ c) := by
  unfold sendMaxP
  iintro ⟨HT, HT', HX, HA⟩
  iapply (list_join _ _ _)
  isplitl [HT]; · iexact HT
  iapply (list_join _ _ _)
  isplitl [HT']; · iexact HT'
  iapply (list_join _ _ _)
  isplitl [HX] <;> iassumption

theorem take_intro (c : Dev nD) : iprop(bigSepL all16 (fun d => atPos ER (locCell c d) 0 ∅ 0) ∗ bigSepL all16 (exWb (F := F) c)) ⊢ bigSepL all16 (takeP (F := F) c) := by
  unfold takeP
  exact list_join _ _ _

theorem next_intro (c : Dev nD) :
    iprop(bigSepL firsts (takeP (F := F) c) ∗ bigSepL firsts (fun d => dutyTok ER (locCell c (d + 4)) 0 0) ∗ bigSepL firsts (fun d => pts c (wSl c (d + 4)) fullShare (warg m ρ c)))
      ⊢ bigSepL firsts (fun d => iprop(takeP (F := F) c d ∗ nextP m ρ c (d + 4))) := by
  unfold nextP
  iintro ⟨HT, HX, HA⟩
  iapply (list_join _ _ _)
  isplitl [HT]; · iexact HT
  iapply (list_join _ _ _)
  isplitl [HX] <;> iassumption

theorem take_elim (c : Dev nD) : bigSepL all16 (takeQ m ρ c)
    ⊢ iprop(bigSepL all16 (fun d => done m ρ (locCell c d)) ∗ holds c cc0_scratch3 (WB m ρ c) ∗ holds c main_arg1 (warg m ρ c)) := by
  rw [show holds c cc0_scratch3 (WB m ρ c) = bigSepL all16 (wbPay m ρ c) from wb_blocks c _, show holds c main_arg1 (warg m ρ c) = _ from w_blocks c _]
  unfold takeQ
  iintro H
  ihave ⟨Hd, H⟩ := (list_split _ _ _) $$ H
  isplitl [Hd]; · iexact Hd
  iapply (list_split _ _ _) $$ H

theorem recv_intro (c : Dev nD) :
    iprop(bigSepL others (fun d => cred (tallyAt (sendCell c d) () N1)) ∗ bigSepL others (fun d => atPos ER (sendCell c d) 0 ∅ 0)
        ∗ bigSepL others (fun d => cred (tallyAt (recvCell c d) () N1)) ∗ bigSepL others (fun d => atPos ER (recvCell c d) 0 ∅ 0))
      ⊢ bigSepL others (recvP (F := F) c) := by
  unfold recvP
  iintro ⟨HT, HT', HX, HA⟩
  iapply (list_join _ _ _)
  isplitl [HT]; · iexact HT
  iapply (list_join _ _ _)
  isplitl [HT']; · iexact HT'
  iapply (list_join _ _ _)
  isplitl [HX] <;> iassumption

theorem recvMax_intro (c : Dev nD) :
    iprop(bigSepL others (fun d => cred (tallyAt (send2Cell c d) () N2)) ∗ bigSepL others (fun d => atPos ER (send2Cell c d) 0 ∅ 0)
        ∗ bigSepL others (fun d => cred (tallyAt (recv2Cell c d) () N2)) ∗ bigSepL others (fun d => atPos ER (recv2Cell c d) 0 ∅ 0))
      ⊢ bigSepL others (recvMaxP (F := F) c) := by
  unfold recvMaxP
  iintro ⟨HT, HT', HX, HA⟩
  iapply (list_join _ _ _)
  isplitl [HT]; · iexact HT
  iapply (list_join _ _ _)
  isplitl [HT']; · iexact HT'
  iapply (list_join _ _ _)
  isplitl [HX] <;> iassumption

theorem recv_elim (c : Dev nD) : bigSepL others (recvR m ρ c)
    ⊢ iprop(bigSepL others (fun d => done m ρ (sendCell c d)) ∗ bigSepL others (fun d => pts c (xbSl c d) fullShare (XB m ρ c)) ∗ bigSepL others (fun d => done m ρ (recvCell c d))) := by
  unfold recvR
  iintro H
  ihave ⟨Hd, H⟩ := (list_split _ _ _) $$ H
  isplitl [Hd]; · iexact Hd
  iapply (list_split _ _ _) $$ H

theorem recvMax_elim (c : Dev nD) : bigSepL others (recvMaxQ m ρ c)
    ⊢ iprop(bigSepL others (fun d => done m ρ (send2Cell c d)) ∗ bigSepL others (send2Pay m ρ c) ∗ bigSepL others (fun d => done m ρ (recv2Cell c d)) ∗ bigSepL others (recv2Pay m ρ c)) := by
  unfold recvMaxQ
  iintro H
  ihave ⟨Hd, H⟩ := (list_split _ _ _) $$ H
  isplitl [Hd]; · iexact Hd
  ihave ⟨Hd, H⟩ := (list_split _ _ _) $$ H
  isplitl [Hd]; · iexact Hd
  iapply (list_split _ _ _) $$ H

/-- The maxima of all devices, once the leaves of the device's own are back. -/
theorem am_whole (c : Dev nD) : iprop(send2Pay m ρ c 0 ∗ bigSepL others (send2Pay m ρ c) ∗ bigSepL others (recv2Pay m ρ c)) ⊢ holds c cc0_scratch4 (AM m ρ c) := by
  rw [show holds c cc0_scratch4 (AM m ρ c) = _ from (am_rows c _).trans (bigSepL_cons' _ _ _), am_leaves, show bigSepL all16 (send2Pay m ρ c) = _ from bigSepL_cons' _ _ _]
  iintro ⟨H0, H1, H2⟩
  isplitl [H0 H1]
  · isplitl [H0] <;> iassumption
  iexact H2

/-! ## The body -/

theorem oM_above (c : Dev nD) : Above 2 (oM c others) := above_oM (by decide) c others

theorem wp_prog (c : Dev nD) :
    iprop(recs m ρ K ∗ levAts L lv ∗ owing c (O₀ c) ∗ poss c ∗ toks c ∗ creds c
        ∗ holds c cc0_stg0_0 (xstg m ρ c) ∗ (∃ f, holds (F := F) c cc0_stg1_0 f) ∗ holds c main_arg1 (warg m ρ c) ∗ scratches c)
      ⊢ wpc c (prog c) (fun _ => iprop(owing c 0 ∗ dones m ρ c ∗ holds c cc0_stg0_0 (xstg m ρ c) ∗ holds c cc0_stg1_0 (outAt m ρ c)
          ∗ holds c main_arg1 (warg m ρ c) ∗ scratches c)) := by
  unfold prog poss toks creds scratches
  rw [cells_list]
  iintro ⟨#HR, #HL, HO, Hpos, Htok, Hcr, Hx, Ho, Hw, Hs0, Hs1, Hs2, Hs3, Hs4⟩
  icases Hpos with ⟨Hpb, Hp0, Hp1, Hp2, Hp3, Hp4⟩
  icases Htok with ⟨Htb, Ht0, Ht1, Ht2, Ht3, Ht4⟩
  icases Hcr with ⟨Hcb, Hc1, Hc3⟩
  ihave ⟨Hz0, Hp0⟩ := (Entails.of_eq (bigSepL_cons' _ _ _)) $$ Hp0
  ihave ⟨Hz1, Hp1⟩ := (Entails.of_eq (bigSepL_cons' _ _ _)) $$ Hp1
  ihave ⟨Hz2, Hp2⟩ := (Entails.of_eq (bigSepL_cons' _ _ _)) $$ Hp2
  ihave ⟨Hz3, Hp3⟩ := (Entails.of_eq (bigSepL_cons' _ _ _)) $$ Hp3
  -- the signals
  ihave ⟨Hg0, Hg⟩ := (open_xg c) $$ Hs1
  ihave ⟨Ha0, Ha⟩ := (open_am c) $$ Hs4
  iapply (wp_seq c (sig_loop m ρ K c (oX c others + oM c others))) $$ [HO Htb Hg Ha]
  · isplitl [HO]
    · isplitr; · iexact HR
      iexact HO
    iapply (sig_intro c)
    isplitl [Htb]; · iexact Htb
    isplitl [Hg] <;> iassumption
  iintro HO
  -- the conversion of `x`
  iapply (wp_seq c (wp_cast m ρ c)) $$ [Hx Hs0]
  · isplitl [Hx] <;> iassumption
  iintro ⟨Hx, Hxb⟩
  -- the first copies of `w`
  ihave Hsl := (open_ws c) $$ Hs2
  ihave Hw := (Entails.of_eq ((w_blocks c (warg m ρ c)).trans (all16_slots _))) $$ Hw
  icases Hw with ⟨Hw, Hw'⟩
  ihave ⟨Ht4, Ht4'⟩ := (Entails.of_eq (all16_slots _)) $$ Ht4
  iapply (wp_seq c (start_loop m ρ K c)) $$ [Hsl Hw Ht4]
  · isplitr; · iexact HR
    iapply (start_intro₀ m ρ c)
    isplitl [Ht4]; · iexact Ht4
    isplitl [Hsl] <;> iassumption
  iintro Hcl
  -- the barrier
  iapply (wp_seq c (wp_bar m ρ K c (oX c others + oM c others) ((above_oX (by decide) c others).add (above_oM (by decide) c others)))) $$ [HO Hcb Hpb]
  · isplitr; · iexact HR
    isplitl [HO]; · iexact HO
    isplitr; · iexact HL
    isplitl [Hcb]; · iexact Hcb
    iexact Hpb
  iintro ⟨HO, Hdb, Hbar⟩
  ihave ⟨Hrg, Hra⟩ := (bar_elim c) $$ Hbar
  -- the blocks of `x` leave
  ihave ⟨Hx0, Hxo⟩ := (Entails.of_eq ((xb_blocks c (XB m ρ c)).trans (bigSepL_cons' _ _ _))) $$ Hxb
  iapply (wp_seq c (send_loop m ρ K c (oM c others))) $$ [HO Ht0 Ht1 Hrg Hxo]
  · isplitl [HO]
    · isplitr; · iexact HR
      iexact HO
    iapply (send_intro m ρ c)
    isplitl [Ht0]; · iexact Ht0
    isplitl [Ht1]; · iexact Ht1
    isplitl [Hrg] <;> iassumption
  iintro ⟨HO, Hc0⟩
  -- the device's own block
  iapply (wp_seq c (wp_own m ρ c)) $$ [Hx0 Hg0]
  · isplitl [Hx0] <;> iassumption
  iintro ⟨Hx0, Hg0⟩
  -- the rows of `w`
  ihave Hwb := (open_wb c) $$ Hs3
  ihave Htk := (take_intro c) $$ [Hp4 Hwb]
  · isplitl [Hp4]; · iexact Hp4
    iexact Hwb
  ihave ⟨Htk, Htk'⟩ := (Entails.of_eq (all16_halves _)) $$ Htk
  iapply (wp_seq c (next_loop m ρ K c (oM c others) (above_oM (by decide) c others))) $$ [HO Hcl Htk Ht4' Hw']
  · isplitl [HO Hcl]
    · isplitl [HO]
      · isplitr; · iexact HR
        isplitl [HO]; · iexact HO
        iexact HL
      iexact Hcl
    iapply (next_intro m ρ c)
    isplitl [Htk]; · iexact Htk
    isplitl [Ht4'] <;> iassumption
  iintro ⟨⟨HB, Hcl⟩, Hq⟩
  iapply (wp_seq c (take_loop m ρ K c (oM c others) (above_oM (by decide) c others))) $$ [HB Hcl Htk']
  · isplitl [HB]; · iexact HB
    isplitl [Hcl] <;> iassumption
  iintro ⟨HB, Hsl, Hq'⟩
  ihave Hq := (Entails.of_eq (all16_halves (takeQ m ρ c)).symm) $$ [Hq Hq']
  · isplitl [Hq] <;> iassumption
  ihave ⟨Hd4, Hwb, Hw⟩ := (take_elim m ρ c) $$ Hq
  -- the blocks of `x` arrive, and are multiplied
  ihave Hrp := (recv_intro c) $$ [Hc0 Hp0 Hc1 Hp1]
  · isplitl [Hc0]; · iexact Hc0
    isplitl [Hp0]; · iexact Hp0
    isplitl [Hc1]; · iexact Hc1
    iexact Hp1
  ihave ⟨Hr0, Hr1, Hr2, Hr3⟩ := (Entails.of_eq (others_quarters _)) $$ Hrp
  iapply (wp_seq c (recv_loop m ρ K c (oM c others) (oM_above c) [1, 2, 3] (by decide))) $$ [HB Hr0]
  · isplitl [HB] <;> iassumption
  iintro ⟨HB, Hr0, Hg⟩
  iapply (wp_seq c (wp_dotFirst m ρ c)) $$ [Hg0 Hg Hwb Ho]
  · isplitl [Hg0 Hg]
    · iapply (Entails.of_eq ((quarter_list m ρ c 0 [0, 1, 2, 3] (by decide)).trans (bigSepL_cons' _ _ _)).symm)
      isplitl [Hg0] <;> iassumption
    isplitl [Hwb] <;> iassumption
  iintro ⟨Hg0, Hwb, Ho⟩
  iapply (wp_seq c (quarter_step m ρ K c (oM c others) (oM_above c) 1 [4, 5, 6, 7] (by decide) (by decide) (OUT0 m ρ c))) $$ [HB Hr1 Hwb Ho]
  · isplitl [HB]; · iexact HB
    isplitl [Hr1]; · iexact Hr1
    isplitl [Hwb] <;> iassumption
  iintro ⟨HB, Hr1, Hg1, Hwb, Ho⟩
  iapply (wp_seq c (quarter_step m ρ K c (oM c others) (oM_above c) 2 [8, 9, 10, 11] (by decide) (by decide) (OUT1 m ρ c))) $$ [HB Hr2 Hwb Ho]
  · isplitl [HB]; · iexact HB
    isplitl [Hr2]; · iexact Hr2
    isplitl [Hwb]; · iexact Hwb
    unfold OUT1; iexact Ho
  iintro ⟨HB, Hr2, Hg2, Hwb, Ho⟩
  iapply (wp_seq c (quarter_step m ρ K c (oM c others) (oM_above c) 3 [12, 13, 14, 15] (by decide) (by decide) (OUT2 m ρ c))) $$ [HB Hr3 Hwb Ho]
  · isplitl [HB]; · iexact HB
    isplitl [Hr3]; · iexact Hr3
    isplitl [Hwb]; · iexact Hwb
    unfold OUT2; iexact Ho
  iintro ⟨⟨-, HO, -⟩, Hr3, Hg3, Hwb, Ho⟩
  -- the maxima
  iapply (wp_seq c (wp_localMax m ρ c)) $$ [Ho Ha0]
  · isplitl [Ho]; · unfold OUT; iexact Ho
    iexact Ha0
  iintro ⟨Ho, Ha0⟩
  ihave ⟨Ha0, Hal⟩ := (Entails.of_eq ((am_leaves m ρ c).trans (bigSepL_cons' _ _ _))) $$ Ha0
  iapply (wp_seq c (sendMax_loop m ρ K c)) $$ [HO Ht2 Ht3 Hra Hal]
  · isplitl [HO]
    · isplitr; · iexact HR
      iexact HO
    iapply (sendMax_intro m ρ c)
    isplitl [Ht2]; · iexact Ht2
    isplitl [Ht3]; · iexact Ht3
    isplitl [Hra] <;> iassumption
  iintro ⟨HO, Hc2⟩
  iapply (wp_seq c (recvMax_loop m ρ K c)) $$ [HO Hc2 Hp2 Hc3 Hp3]
  · isplitl [HO]
    · isplitr; · iexact HR
      isplitl [HO]; · iexact HO
      iexact HL
    iapply (recvMax_intro c)
    isplitl [Hc2]; · iexact Hc2
    isplitl [Hp2]; · iexact Hp2
    isplitl [Hc3]; · iexact Hc3
    iexact Hp3
  iintro ⟨⟨-, HO, -⟩, Hm⟩
  ihave ⟨Hd2, Hal, Hd3, Har⟩ := (recvMax_elim m ρ c) $$ Hm
  iapply (wp_wand frame _ _) $$ [Ho Ha0 Hal Har]
  · iapply (wp_quantise m ρ c)
    isplitl [Ho]; · iexact Ho
    iapply (am_whole m ρ c)
    isplitl [Ha0]; · iexact Ha0
    isplitl [Hal] <;> iassumption
  iintro %a ⟨Ho, Ham⟩
  -- the end
  ihave Hr := (Entails.of_eq (others_quarters (recvR m ρ c)).symm) $$ [Hr0 Hr1 Hr2 Hr3]
  · isplitl [Hr0]; · iexact Hr0
    isplitl [Hr1]; · iexact Hr1
    isplitl [Hr2] <;> iassumption
  ihave ⟨Hd0, Hxo, Hd1⟩ := (recv_elim m ρ c) $$ Hr
  isplitl [HO]; · iexact HO
  isplitl [Hdb Hd0 Hd1 Hd2 Hd3 Hd4 Hz0 Hz1 Hz2 Hz3]
  · unfold dones
    rw [cells_list]
    isplitl [Hdb]; · iexact Hdb
    isplitl [Hd0 Hz0]
    · iapply (Entails.of_eq (bigSepL_cons' _ _ _).symm)
      isplitl [Hz0]; · iapply (done_unused m ρ c 0 (by decide)) $$ Hz0
      iexact Hd0
    isplitl [Hd1 Hz1]
    · iapply (Entails.of_eq (bigSepL_cons' _ _ _).symm)
      isplitl [Hz1]; · iapply (done_unused m ρ c 1 (by decide)) $$ Hz1
      iexact Hd1
    isplitl [Hd2 Hz2]
    · iapply (Entails.of_eq (bigSepL_cons' _ _ _).symm)
      isplitl [Hz2]; · iapply (done_unused m ρ c 2 (by decide)) $$ Hz2
      iexact Hd2
    isplitl [Hd3 Hz3]
    · iapply (Entails.of_eq (bigSepL_cons' _ _ _).symm)
      isplitl [Hz3]; · iapply (done_unused m ρ c 3 (by decide)) $$ Hz3
      iexact Hd3
    iexact Hd4
  isplitl [Hx]; · iexact Hx
  isplitl [Ho]; · iexact Ho
  isplitl [Hw]; · iexact Hw
  isplitl [Hx0 Hxo]
  · iexists XB m ρ c
    iapply (Entails.of_eq ((xb_blocks c (XB m ρ c)).trans (bigSepL_cons' _ _ _)).symm)
    isplitl [Hx0] <;> iassumption
  isplitl [Hg0 Hg1 Hg2 Hg3]
  · iapply (xg_whole m ρ c)
    isplitl [Hg0]; · iexact Hg0
    isplitl [Hg1]; · iexact Hg1
    isplitl [Hg2] <;> iassumption
  isplitl [Hsl]; · iapply (ws_join c) $$ Hsl
  isplitl [Hwb]; · iexists WB m ρ c; iexact Hwb
  iexists AM m ρ c
  iexact Ham

end Cert.KernelIdeal.Claims

end
-- ==== Proof.Run.lean ====
/-
  The launch and the run.

  The launch mints the cells' states and the duties' tokens, allocates every cell's invariant, deals each token to
  the device that pays the duty, and gives each device the credit for what the others owe it. The run of the whole
  program follows from the body's: every execution ends with the result on every device, the arguments as they were
  and every semaphore counter at zero.
-/
module

public import proofs.«01_k».proof.Proof.Body
public import Idealize.ShloMosaic.Lib.Pipeline.CollectiveSegs

@[expose] public section

set_option maxRecDepth 16384

noncomputable section

namespace Cert.KernelIdeal.Claims

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

def t₀ : Fin cfg0.N := t0_0

/-- The ghost state a device starts from, at the names `K` of the invariants. -/
def ghost (K : Dev nD × CellIx → ℕ) (c : Dev nD) : sProp 𝕄 := iprop(recs m ρ K ∗ poss c ∗ toks c)

/-- What a device starts from: that, its credit, the order of the waits and its copy of `w`. -/
def start (c : Dev nD) : sProp 𝕄 := iprop((∃ K, ghost m ρ K c) ∗ creds c ∗ levAts L lv ∗ holds c main_arg1 (warg m ρ c))

def Φ₀ (c : Dev nD) : sProp 𝕄 := iprop(start m ρ c ∗ scratches c)
/-- What it ends with: its scratch buffers, its cells closed at zero, its copy of `w`. -/
def Φ₁ (c : Dev nD) : sProp 𝕄 := iprop(scratches c ∗ (bigSep Finset.univ fun i : CellIx => semVal (kcell (c, i)) 0) ∗ holds c main_arg1 (warg m ρ c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

theorem fetch_0 (t : Fin cfg0.N) : (cfg0.win (0 : Fin 2)).fetch t = true := by rw [fin_N0 t]; rfl

/-- A staging buffer holding `X`, as the obligation states it. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ c))

/-- The cells close, each at zero. -/
theorem close_all (K : Dev nD × CellIx → ℕ) (c : Dev nD) :
    iprop(recs m ρ K ∗ dones m ρ c) ⊢ (|={Set.univ}=> bigSep Finset.univ fun i : CellIx => semVal (kcell (c, i)) 0 : sProp 𝕄) := by
  unfold dones
  refine (bigSep_with_persistent (R := recs m ρ K) (Ψ := fun i : CellIx => iprop(|={Set.univ}=> semVal (kcell (c, i)) 0)) fun i _ => ?_).trans (bigSep_fupd _ _)
  unfold done
  iintro ⟨#HR, ⟨%R, %hR, Hat⟩⟩
  ihave ⟨HI, -⟩ := (recs_at m ρ K c i) $$ HR
  iapply (Rounds.cell_close ER (sched (F := F) m ρ) (Set.mem_univ (K (c, i))) (fun h => h) (R := R) hR)
  isplitl [HI] <;> iassumption

theorem sound_body (c : Dev nD) : bodyPre m ρ c ⊢ wpc c (cc0_body (F := F) xM (Memref.isWhole_whole _) wM (Memref.isWhole_whole _) outM (Memref.isWhole_whole _)
    xbM (Memref.isWhole_whole _) xgM (Memref.isWhole_whole _) wsM (Memref.isWhole_whole _) wbM (Memref.isWhole_whole _)
    amM (Memref.isWhole_whole _) cc0_scratch5 cc0_scratch6 cc0_scratch7 cc0_scratch8 cc0_scratch9) (fun _ => bodyPost m ρ c) := by
  rw [body_eq]
  unfold wpc
  rw [wp_deviceId]
  unfold bodyPre Φ₀ start ghost
  iintro ⟨⟨⟨⟨%K, #HR, Hpos, Htok⟩, Hcr, #HL, Hw⟩, Hscr⟩, Ho, ⟨%d0, %g0, %hg0, Hx⟩, ⟨%d1, %g1, %hg1, Hout⟩⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  iapply (wp_fupd frame _)
  iapply (wp_wand frame _ _) $$ [HO Hpos Htok Hcr Hx Hout Hw Hscr]
  · iapply (wp_prog m ρ K c)
    isplitr; · iexact HR
    isplitr; · iexact HL
    isplitl [HO]; · unfold owing; iexists W; iexact HO
    isplitl [Hpos]; · iexact Hpos
    isplitl [Htok]; · iexact Htok
    isplitl [Hcr]; · iexact Hcr
    isplitl [Hx]; · iexact Hx
    isplitl [Hout]; · iexists g1; iexact Hout
    isplitl [Hw] <;> iassumption
  iintro %a ⟨HO, Hd, Hx, Hout, Hw, Hscr⟩
  unfold owing
  icases HO with ⟨%W', HO⟩
  unfold bodyPost Φ₁ Dat.owesAt Pipeline.owesWithin
  rw [show (dats m ρ 0 c).owed t₀.succ = 0 from rfl]
  imod (close_all m ρ K c) $$ [Hd] with Hz
  · isplitr; · iexact HR
    iexact Hd
  imodintro
  isplitl [Hscr Hz Hw]
  · isplitl [Hscr]; · iexact Hscr
    isplitl [Hz] <;> iassumption
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hout

/-- The body's obligation on device `c`. -/
theorem body_obligation (c : Dev nD) : BodyObligation (dats (F := F) m ρ 0 c) (defs₀ (F := F)) 𝒱₀ () Set.univ := fun t => by
  rw [show t = t₀ from fin_N0 t]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  simp only [owns_whole_eq]
  exact sound_body m ρ c

/-! ## What the launch mints -/

theorem ownSemFacts : Pipeline.OwnSemFacts cfg0.spec osem where
  isScoped := fun ⟨k, d⟩ => by
    have h : ∀ q : DmaSem sig, (SemLoc.dma q : SemLoc sig).isScoped .tc = true := by decide
    exact h _
  inj := fun i j h => by
    have h' : csem (.inr i) = csem (.inr j) := h
    exact Sum.inr.inj (csem_injective h')
  disj := fun ⟨k, d⟩ w s h => by
    have h1 := congrArg tag h
    rw [show tag (osem (k, d)) = _ from tag_osem k d] at h1
    have h2 : ∀ (w : Fin 2) (s : Fin (spec0 w).nbuf), tag (.dma ((spec0 w).sem s)) = none := by decide
    rw [show tag (.dma ((cfg0.spec w).sem s)) = none from h2 w s] at h1
    exact absurd h1 (by simp)

theorem share_eq (c : Dev nD) (w : Fin cfg0.W) : (dats m ρ 0 c).share w = fullShare := by unfold Dat.share; split <;> rfl

def ringCells : Finset (GSem nD τ sig) := Finset.univ.map ⟨kcell, kcell_injective⟩

/-- A token of each duty, by the cell: sixteen at the barrier, one at every entry of the arrays. -/
def tokOf (cj : Dev nD × (Fin 16 ⊕ (Fin 5 × Fin 16))) : GSem nD τ sig × ℕ × Fin 16 :=
  match cj.2 with
  | .inl e => (barCell cj.1, 0, e)
  | .inr i => (kcell (cj.1, .inr i), 0, 0)

theorem tokOf_injective : Function.Injective tokOf := fun ⟨c, j⟩ ⟨c', j'⟩ h => by
  rcases j with e | i <;> rcases j' with e' | i'
  · have h1 : kcell (c, (.inl () : CellIx)) = kcell (c', .inl ()) := congrArg Prod.fst h
    have h2 : e = e' := congrArg (fun x => x.2.2) h
    rw [h2, show c = c' from congrArg Prod.fst (kcell_injective h1)]
  · have h1 : kcell (c, (.inl () : CellIx)) = kcell (c', .inr i') := congrArg Prod.fst h
    exact absurd (congrArg Prod.snd (kcell_injective h1)) (by simp)
  · have h1 : kcell (c, (.inr i : CellIx)) = kcell (c', .inl ()) := congrArg Prod.fst h
    exact absurd (congrArg Prod.snd (kcell_injective h1)) (by simp)
  · have h1 : kcell (c, (.inr i : CellIx)) = kcell (c', .inr i') := congrArg Prod.fst h
    have h2 := kcell_injective h1
    rw [show c = c' from congrArg Prod.fst h2, show i = i' from Sum.inr.inj (congrArg Prod.snd h2)]

def ringToks : Finset (GSem nD τ sig × ℕ × Fin 16) := Finset.univ.map ⟨tokOf, tokOf_injective⟩

def u₀ : UU := (initOf (Pipeline.cells cfgs cellOf_inj) (Pipeline.launchToks cfgs cellOf_inj), initOf ringCells ringToks)

/-- The tokens of the device's own cells. -/
def ownToks (c : Dev nD) : sProp 𝕄 :=
  iprop((bigSep Finset.univ fun e : Fin 16 => dutyTok ER (barCell c) 0 e) ∗ bigSep Finset.univ fun i : Fin 5 × Fin 16 => dutyTok ER (kcell (c, .inr i)) 0 0)

def G (c : Dev nD) : sProp 𝕄 :=
  iprop((bigSep Finset.univ fun i : CellIx => roundState ER (sched (F := F) m ρ) (kcell (c, i)) 0)
    ∗ (bigSep Finset.univ fun i : CellIx => iprop(atPos ER (kcell (c, i)) 0 ∅ 0 ∗ reached ER (kcell (c, i)) 0)) ∗ ownToks c)

def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun i : CellIx => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => ownToks c := by
    unfold ringToks; rw [bigSep_map, bigSep_univ_prod]
    exact bigSep_congr fun c _ => by unfold ownToks; rw [bigSep_univ_sum]; rfl
  iintro HX
  imod (Rounds.fund ER (sched (F := F) m ρ) ringCells ringToks) $$ HX with ⟨Hst, Hr, Hat, Htok⟩
  imodintro
  ihave Hst' := (Entails.of_eq (hX fun g => roundState ER (sched (F := F) m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Allocating the invariants and dealing the tokens -/

theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    (bigSep Finset.univ fun i : CellIx => semVal (kcell (c, i)) 0 : sProp 𝕄)
      = iprop(unscopedSems0 c ∗ Pipeline.ownSems0 (Ix := Unit) (Name := ℕ) (U := UU) (Lvl := ℕ) (Val := Elt F) (τ := τ) osem c) := by
  rw [unscopedSems0_eq, bigSep_univ_sum, bigSep_univ_eq_bigSepL [()] (by decide) (by decide)]
  rfl

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CellIx => iprop(∃ κ : ℕ, cellInv ER (sched (F := F) m ρ) κ (kcell (c, i))))
          ∗ (bigSep Finset.univ fun i : CellIx => iprop(atPos ER (kcell (c, i)) 0 ∅ 0 ∗ reached ER (kcell (c, i)) 0)) ∗ ownToks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun i : CellIx => semVal (kcell (c, i)) 0) ∗ bigSep Finset.univ fun i : CellIx => roundState ER (sched (F := F) m ρ) (kcell (c, i)) 0)
      ⊢ (|={Set.univ}=> bigSep Finset.univ fun i : CellIx => iprop(∃ κ : ℕ, cellInv ER (sched (F := F) m ρ) κ (kcell (c, i))) : sProp 𝕄) from by
        rw [← bigSep_sep']
        exact (bigSep_mono fun i _ => (Rounds.body_intro ER (sched (F := F) m ρ) (kcell (c, i))).trans inv_alloc).trans (bigSep_fupd _ _)) $$ [Hv Hst] with Hinv
  · isplitl [Hv] <;> iassumption
  imodintro
  isplitl [Hinv]; · iexact Hinv
  isplitl [Hat] <;> iassumption

/-- Moving every device on by `d` places. -/
def rot (d : Fin 16) : Dev nD ≃ Dev nD := ⟨fun c => tgt c d, fun c => src c d, fun c => src_tgt c d, fun c => tgt_src c d⟩

/-- What every device has at every distance may be dealt to the devices at that distance. -/
theorem around (Φ : Dev nD → Fin 16 → sProp 𝕄) :
    (bigSep Finset.univ fun c : Dev nD => bigSep Finset.univ fun d : Fin 16 => Φ c d) = bigSep Finset.univ fun c : Dev nD => bigSep Finset.univ fun d : Fin 16 => Φ (tgt c d) d := by
  rw [BI.bigSep_univ_comm, BI.bigSep_univ_comm (fun (c : Dev nD) (d : Fin 16) => Φ (tgt c d) d)]
  exact bigSep_congr fun d _ => bigSep_univ_equiv (rot d) (fun c => Φ c d)

/-- Dropping what is at distance 0. -/
theorem drop_zero (Φ : Fin 16 → sProp 𝕄) : bigSep Finset.univ Φ ⊢ bigSepL others Φ := by
  rw [bigSep_all16, show bigSepL all16 Φ = _ from bigSepL_cons' _ _ _]
  iintro ⟨-, H⟩
  iexact H

/-- The tokens dealt around the ring. -/
theorem toks_around : (bigSep Finset.univ fun c : Dev nD => (ownToks c : sProp 𝕄)) ⊢ bigSep Finset.univ fun c : Dev nD => toks c := by
  have hb (c : Dev nD) : (bigSep Finset.univ fun e : Fin 16 => (dutyTok ER (barCell c) 0 e : sProp 𝕄)) = bigSep Finset.univ fun d : Fin 16 => dutyTok ER (barCell c) 0 (-d) :=
    bigSep_univ_equiv (Equiv.neg (Fin 16)) (fun e => dutyTok ER (barCell c) 0 e)
  have hl (c : Dev nD) : (bigSep Finset.univ fun i : Fin 5 × Fin 16 => (dutyTok ER (kcell (c, .inr i)) 0 0 : sProp 𝕄))
      = iprop((bigSep Finset.univ fun d : Fin 16 => dutyTok ER (sendCell c d) 0 0) ∗ (bigSep Finset.univ fun d : Fin 16 => dutyTok ER (recvCell c d) 0 0)
        ∗ (bigSep Finset.univ fun d : Fin 16 => dutyTok ER (send2Cell c d) 0 0) ∗ (bigSep Finset.univ fun d : Fin 16 => dutyTok ER (recv2Cell c d) 0 0)
        ∗ bigSep Finset.univ fun d : Fin 16 => dutyTok ER (locCell c d) 0 0) := by
    rw [bigSep_univ_prod, bigSep_univ_eq_bigSepL [0, 1, 2, 3, 4] (by decide) (by decide)]
    rfl
  unfold ownToks
  simp only [hb, hl]
  rw [bigSep_sep', bigSep_sep', bigSep_sep', bigSep_sep', bigSep_sep', around fun c d => dutyTok ER (barCell c) 0 (-d), around fun c d => dutyTok ER (recvCell c d) 0 0,
    around fun c d => dutyTok ER (recv2Cell c d) 0 0]
  unfold toks
  rw [bigSep_sep', bigSep_sep', bigSep_sep', bigSep_sep', bigSep_sep']
  exact BI.sep_mono (bigSep_mono fun c _ => drop_zero _) (BI.sep_mono (bigSep_mono fun c _ => drop_zero _) (BI.sep_mono (bigSep_mono fun c _ => drop_zero _)
    (BI.sep_mono (bigSep_mono fun c _ => drop_zero _) (BI.sep_mono (bigSep_mono fun c _ => drop_zero _) (bigSep_mono fun c _ => Entails.of_eq (bigSep_all16 _))))))

theorem ghost_intro (K : Dev nD × CellIx → ℕ) (c : Dev nD) : iprop(recs m ρ K ∗ poss c ∗ toks c) ⊢ G' m ρ c := by
  unfold G' ghost
  iintro H
  iexists K
  iexact H

theorem regroup :
    (bigSep Finset.univ fun c : Dev nD => iprop((bigSep Finset.univ fun i : CellIx => iprop(∃ κ : ℕ, cellInv ER (sched (F := F) m ρ) κ (kcell (c, i))))
          ∗ (bigSep Finset.univ fun i : CellIx => iprop(atPos ER (kcell (c, i)) 0 ∅ 0 ∗ reached ER (kcell (c, i)) 0)) ∗ ownToks c) : sProp 𝕄)
      ⊢ bigSep Finset.univ (G' m ρ) := by
  rw [bigSep_sep', bigSep_sep', ← bigSep_univ_prod (fun ck : Dev nD × CellIx => iprop(∃ κ : ℕ, cellInv ER (sched (F := F) m ρ) κ (kcell ck))),
    bigSep_congr (s := Finset.univ) (fun (c : Dev nD) _ => bigSep_sep' Finset.univ (fun i : CellIx => (atPos ER (kcell (c, i)) 0 ∅ 0 : sProp 𝕄)) (fun i => reached ER (kcell (c, i)) 0)),
    bigSep_sep', ← bigSep_univ_prod (fun ck : Dev nD × CellIx => (reached ER (kcell ck) 0 : sProp 𝕄))]
  iintro ⟨HI, ⟨Hat, #HR⟩, Htok⟩
  ihave HK := (BI.bigSep_exists_pi Finset.univ (fun (ck : Dev nD × CellIx) (κ : ℕ) => (cellInv ER (sched (F := F) m ρ) κ (kcell ck) : sProp 𝕄))) $$ HI
  icases HK with ⟨%K, #HI⟩
  ihave Htk := (toks_around (F := F)) $$ Htok
  iapply (bigSep_with_persistent (R := recs m ρ K) fun c _ => ghost_intro m ρ K c)
  isplitr
  · unfold recs; rw [bigSep_sep']
    isplitl; · iexact HI
    iexact HR
  · rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

/-- When every device owes, for each distance of a list, an amount at a cell of the device at that distance, every
    device has the credit for those amounts at its own cells. -/
theorem launch_list (sm : Fin 16 → SemLoc sig) (n : ℕ) (c : Dev nD) : ∀ l : List (Fin 16),
    (Pipeline.launchCred (fun d => (l.map fun e => tallyAt ((tgt d e : Thread nD τ), sm e) () n).sum) c : sProp 𝕄)
      ⊢ bigSepL l fun e => cred (tallyAt ((c : Thread nD τ), sm e) () n)
  | [] => by
    simp only [List.map_nil, List.sum_nil]
    rw [Pipeline.launchCred_zero, bigSepL_nil]
    exact Entails.of_eq rfl
  | e :: l => by
    simp only [List.map_cons, List.sum_cons]
    rw [Pipeline.launchCred_add, bigSepL_cons']
    iintro ⟨H, Hl⟩
    isplitl [H]
    · iapply (Pipeline.launchCred_tallyAt (sm e) (fun d => tgt d e) (fun d => src d e) (fun d => tgt_src d e) (fun d => src_tgt d e) () n c) $$ H
    iapply (launch_list sm n c l) $$ Hl

/-- Units of credit at one cell are together that many units. -/
theorem cred_units {A : Type} (g : GSem nD τ sig) : ∀ l : List A, (bigSepL l fun _ => (cred (tallyAt g () 1) : sProp 𝕄)) ⊢ cred (tallyAt g () l.length)
  | [] => by
    rw [bigSepL_nil, List.length_nil, show (tallyAt g () 0 : CellTallies nD τ sig Unit) = 0 from by unfold tallyAt; rw [Finsupp.single_zero, tallyOn_zero], cred_zero]
    exact Entails.of_eq rfl
  | a :: l => by
    rw [bigSepL_cons', List.length_cons, ← tallyAt_add]
    iintro ⟨H, Hl⟩
    iapply (cred_add _ _).2
    isplitl [Hl]
    · iapply (cred_units g l) $$ Hl
    iexact H

theorem creds_intro (c : Dev nD) : (Pipeline.launchCred O₀ c : sProp 𝕄) ⊢ creds c := by
  rw [show O₀ = fun d => oBar d others + (oX d others + oM d others) from rfl, Pipeline.launchCred_add, Pipeline.launchCred_add]
  unfold creds oBar oX oM
  iintro ⟨Hb, Hx, Hm⟩
  isplitl [Hb]
  · iapply (cred_units (barCell c) others)
    iapply (launch_list (fun _ => .reg barS) 1 c others) $$ Hb
  isplitl [Hx]
  · iapply (launch_list (fun d => .dma (semAt cc0_scratch6 d)) N1 c others) $$ Hx
  iapply (launch_list (fun d => .dma (semAt cc0_scratch8 d)) N2 c others) $$ Hm

/-! ## Entry and exit -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_eq_of_list (Ix := Unit) (Name := ℕ) (U := UU) (Lvl := ℕ) cfg0.spec c Pipeline.Prefetch.none (fun b => m ((c : Thread nD τ).loc b)) [main_arg1] (by decide) (by decide), bigSepL_singleton]
  iintro ⟨Hw, Hlev, Hcr, -, HG⟩
  ihave Hc := (creds_intro (F := F) c) $$ Hcr
  imodintro
  unfold start G'
  isplitl
  · isplitl [HG]; · iexact HG
    isplitl [Hc]; · iexact Hc
    isplitl [Hlev]; · iexact Hlev
    iexact Hw
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show (Pipeline.scopedRest (Ix := Unit) (Name := ℕ) (U := UU) (Lvl := ℕ) cfg0.spec c : sProp 𝕄) = scratches c from scopedRest0_eq c]
  unfold Φ₀
  iintro ⟨Hs, -, Hr⟩
  isplitl [Hs] <;> iassumption

/-- What a device hands back. -/
def Y (c : Dev nD) : sProp 𝕄 := iprop(unscopedSems0 c ∗ holds c main_arg1 (warg m ρ c))

theorem phi1_exit (c : Dev nD) :
    (dats m ρ 0 c).Φ (Fin.last cfg0.N) ⊢ iprop(Y m ρ c ∗ Pipeline.ownSems0 osem c ∗ Pipeline.scopedRest cfg0.spec c) := by
  rw [show (dats m ρ 0 c).Φ (Fin.last cfg0.N) = Φ₁ m ρ c from rfl, show (Pipeline.scopedRest (Ix := Unit) (Name := ℕ) (U := UU) (Lvl := ℕ) cfg0.spec c : sProp 𝕄) = scratches c from scopedRest0_eq c]
  unfold Φ₁ Y
  rw [sems0_eq]
  iintro ⟨Hr, ⟨Hu, Ho⟩, Hw⟩
  isplitl [Hu Hw]
  · isplitl [Hu] <;> iassumption
  isplitl [Ho] <;> iassumption

theorem stage_tag : ∀ (w : Fin 2) (s : Fin (spec0 w).nbuf), tag (.dma ((spec0 w).sem s)) = none := by decide

theorem waits (c : Dev nD) : (levAts L lv : sProp 𝕄) ⊢ Pipeline.cellsWaits cfgs (dats m ρ) () 0 c :=
  Pipeline.cellsWaits_intro cfgs (dats m ρ) () 0 c fun w s t =>
    mayWait_of c _ 0 (by rw [show tag _ = none from stage_tag w s]; exact Nat.le_refl 0) (by
      rcases t with ⟨_ | _, ht⟩
      · exact (above_oBar c others).add ((above_oX (by decide) c others).add (above_oM (by decide) c others))
      · exact Above.zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  (∀ c : Dev nD, ∀ w : Fin cfg0.W, r.2.mem ((cfg0.win w).arr.view.loc (c : Thread nD τ)) = finalA m ρ c w)
    ∧ ∀ c : Dev nD, r.2.mem ((c : Thread nD τ).loc main_arg1) = m ((c : Thread nD τ).loc main_arg1)

theorem read_w (c : Dev nD) (s' : Phys nD τ sig (Elt F)) :
    iprop(holds c main_arg1 (warg m ρ c) ∗ SI s') ⊢ (iprop(⌜s'.mem.mem ((c : Thread nD τ).loc main_arg1) = m ((c : Thread nD τ).loc main_arg1)⌝ ∗ SI s') : sProp 𝕄) := by
  iintro ⟨Hw, HS⟩
  ihave ⟨%h, HS⟩ := (pointsTo_read_all (({main_arg1} : Finset (Ref sig .tc))) (fun b => (c : Thread nD τ).loc b) (fun b => m ((c : Thread nD τ).loc b)) s') $$ [Hw HS]
  · isplitl [Hw]
    · rw [bigSep_singleton]; iexact Hw
    iexact HS
  isplitr
  · ipureintro; exact h main_arg1 (Finset.mem_singleton_self _)
  iexact HS

set_option maxRecDepth 20000 in
/-- Over any float values and from any memory with zero counters, every weakly fair execution of the program on the
    sixteen devices terminates, with the windows' arrays at the computed contents, `w` unchanged and every counter
    at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := Y m ρ) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold Y
      iintro ⟨⟨Hu, Hw⟩, -, HSI⟩
      ihave ⟨%h, HSI⟩ := (read_w m ρ c s') $$ [Hw HSI]
      · isplitl [Hw] <;> iassumption
      imod (Pipeline.unscopedSems0_read (X := unscopedSems0 c) (c := c) fupd_intro s') $$ [Hu HSI] with ⟨%h', HSI⟩
      · isplitl [Hu] <;> iassumption
      imodintro
      isplitr; · ipureintro; exact ⟨h', h⟩
      iexact HSI)
    (hQ := fun _ h hs => ⟨⟨fun c w => (h c).1 w, fun c => (h c).2.2.2⟩, sem_eq_zero hs fun c => (h c).2.2.1⟩)

end Cert.KernelIdeal.Claims

end
-- ==== Proof.Results.lean ====
/-
  The runs read at the arrays a claim speaks of: the arguments unchanged, the result array at `outAt`, and the frames
  of the kernel at either float type.
-/
module

public import proofs.«01_k».proof.Defs
public import proofs.«01_k».proof.Proof.Gen.Kernel
public import proofs.«01_k».proof.Proof.Gen.ReferenceIdeal.Run
public import proofs.«01_k».proof.Proof.Run
public import Idealize.ShloMosaic.Lib.Quiescent

@[expose] public section

set_option maxRecDepth 16384

noncomputable section

namespace Cert.KernelIdeal.Claims

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The array of `x` ends as it began. -/
theorem final_x (c : Dev nD) : finalA m ρ c (0 : Fin 2) = m ((c : Thread nD τ).loc main_arg0) :=
  (dats (F := F) m ρ 0 c).arrAt_in (0 : Fin 2) rfl _

/-- The result array is written whole, once. -/
theorem final_out (c : Dev nD) : finalA m ρ c (1 : Fin 2) = outAt m ρ c := by
  have hz : (fun a => (win0_1.index (0 : Fin 1)) a * main_v1.ty.shape.size a) = fun _ => 0 := funext fun a => by fin_cases a <;> decide
  have hr := fun f => Memref.read_access_unit_zero (Elt F) main_v1 hz (fun a => by fin_cases a <;> decide) f
  refine (hr _).symm.trans ?_
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- The frame of the kernel, over any float values. -/
theorem run_frame : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun _ h => ⟨fun c => ⟨(h.1.1 c (0 : Fin 2)).trans (final_x m ρ c), h.1.2 c⟩, h.2⟩) (run_main m ρ)

theorem frame_kernelIdeal : Cert.quiescent_KernelIdeal := fun m ρ _ => run_frame (F := Ideal) m ρ

/-- The two printings of the kernel have one text: their functions are equal at every label. -/
theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl

theorem defs_eq : Cert.Kernel.defs (F := F) = Cert.KernelIdeal.defs (F := F) := by
  unfold Cert.Kernel.defs Cert.KernelIdeal.defs
  rw [defs₀_eq]
  rfl

theorem frame_kernel : Cert.quiescent_Kernel := fun m ρ _ => by
  rw [defs_eq]
  exact run_frame (F := Bits) m ρ

/-- The reference is a straight-line host program, and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KernelIdeal.Claims

end
-- ==== Proof.Product.lean ====
/-
  The product over the extended reals.

  A device gathers its block of rows of `x` in the order of the ring (its own columns first, then those of the device
  one place back, and so on) and takes the rows of `w` in that order, so its product sums the reference's terms in
  another order: `OUT c` is the device's block of rows of the product of the two whole arrays.
-/
module

public import proofs.«01_k».proof.Proof.Results
public import Idealize.ShloMosaic.Lib.MatmulPlain
public import Idealize.ShloMosaic.Lib.IdealHost
public import Idealize.ShloMosaic.Lib.Layout

@[expose] public section

set_option maxRecDepth 16384

noncomputable section

namespace Cert.KernelIdeal.Claims

open Cert.KernelIdeal Cert.KernelIdeal.Gen
open Idealize.ShloMosaic Idealize.ShloMosaic.TcCoe
open Idealize.SL.Sem
open Idealize.ShloMosaic.ValueIdx (ix2 eq_ix2)
open scoped BigOperators

variable (m : (ℓ : Loc nD τ sig) → Buf (Elt Ideal) ℓ) (ρ : Dev nD → PrngReg)

/-- The input window holds the device's whole block of `x`. -/
theorem xstg_eq (c : Dev nD) : xstg m ρ c = m ((c : Thread nD τ).loc main_arg0) := by
  have hz : (fun a => (win0_0.index (0 : Fin 1)) a * main_arg0.ty.shape.size a) = fun _ => 0 := funext fun a => by fin_cases a <;> decide
  exact Memref.read_access_unit_zero (Elt Ideal) main_arg0 hz (fun a => by fin_cases a <;> decide) _

/-- Over the extended reals the conversion of `x` changes nothing. -/
theorem pay1_apply (v : Vec Ideal S4096x256 .f32) (i : S4096x256.Idx) : k0_pay1 (F := Ideal) v i = v i :=
  (congrArg v (Shape.reshapeEquiv_self _ _)).trans (congrArg v (Shape.reshapeEquiv_self _ _))

/-- Nor does that of a staged block of `w`. -/
theorem pay3_apply (v : Vec Ideal S256x2048 .f32) (h) (i : S256x2048.Idx) : k0_pay3 (F := Ideal) (shapeCast S1x256x2048 v h) i = v i := by
  refine (congrArg v (Shape.reshapeEquiv_reshapeEquiv _ _ _)).trans ?_
  exact (congrArg v (Shape.reshapeEquiv_self _ _)).trans (congrArg v (Shape.reshapeEquiv_self _ _))

theorem place_lt (c : Dev nD) (j : Fin 4096) : 256 * (src c ⟨j.val / 256, Nat.div_lt_of_lt_mul j.isLt⟩).val + j.val % 256 < 4096 := by
  have h : (src c ⟨j.val / 256, Nat.div_lt_of_lt_mul j.isLt⟩).val < 16 := (src c _).isLt
  omega

/-- The column of `x`, and row of `w`, at place `j` of the gathered order. -/
def place (c : Dev nD) (j : Fin 4096) : Fin 4096 := ⟨256 * (src c ⟨j.val / 256, Nat.div_lt_of_lt_mul j.isLt⟩).val + j.val % 256, place_lt c j⟩

theorem place_val (c : Dev nD) (j : Fin 4096) : (place c j).val = 256 * ((c.val + (16 - j.val / 256)) % 16) + j.val % 256 := by
  show 256 * (src c _).val + _ = _
  rw [src_val]

/-- The gathered order takes every place once. -/
theorem place_bijective (c : Dev nD) : Function.Bijective (place c) := by
  refine Finite.injective_iff_bijective.mp fun i j h => ?_
  have h' := congrArg Fin.val h
  rw [place_val, place_val] at h'
  have hc : c.val < 16 := c.isLt
  have hi := i.isLt
  have hj := j.isLt
  exact Fin.ext (by omega)

theorem row_lt (c : Dev nD) (r : Fin 256) : 256 * c.val + r.val < 4096 := by
  have h : c.val < 16 := c.isLt
  omega

/-- Row `r` of device `c`'s block of rows. -/
def row (c : Dev nD) (r : Fin 256) : Fin 4096 := ⟨256 * c.val + r.val, row_lt c r⟩

/-- The blocks of columns of `x` tile it. -/
theorem tiles_x : Layout.Tiles ⟨2, ![4096, 256]⟩ ⟨2, ![4096, 4096]⟩ 1 16 := by decide

section Whole

variable (X : FVec Ideal ⟨2, ![4096, 4096]⟩ .f32)
variable (hX : ∀ c : Dev nD, m ((c : Thread nD τ).loc main_arg0) = Layout.block ⟨2, ![4096, 256]⟩ ⟨2, ![4096, 4096]⟩ 1 16 c X tiles_x)

include hX in
theorem xstg_apply (c : Dev nD) (i : Fin 4096) (k : Fin 256) (k' : Fin 4096) (hk : k'.val = 256 * c.val + k.val) :
    xstg m ρ c (ix2 i k) = X (ix2 i k') := by
  rw [xstg_eq, hX]
  refine congrArg X (ix2_eta _ _ _ rfl ?_).symm
  show c.val * 256 + k.val = k'.val
  omega

include hX in
/-- An element of the gathered rows. -/
theorem xg_apply (c : Dev nD) (r : Fin 256) (j : Fin 4096) : XG m ρ c (ix2 r j) = X (ix2 (row c r) (place c j)) := by
  set d : Fin 16 := ⟨j.val / 256, Nat.div_lt_of_lt_mul j.isLt⟩ with hd
  set y : S256x256.Idx := ix2 r (⟨j.val % 256, Nat.mod_lt _ (by decide)⟩ : Fin 256) with hy
  have h0 : (((xbSl (src c d) d).view.emb y (0 : Fin 2) : Fin _) : ℕ) = k0_off2 (src c d) (BitVec.ofNat 32 d.val) 0 + r.val :=
    ValueKit.view_emb_slice_whole_unit_val cc0_scratch0 _ _ (inbXb d (src c d)) y 0
  have h1 : (((xbSl (src c d) d).view.emb y (1 : Fin 2) : Fin _) : ℕ) = k0_off2 (src c d) (BitVec.ofNat 32 d.val) 1 + j.val % 256 :=
    ValueKit.view_emb_slice_whole_unit_val cc0_scratch0 _ _ (inbXb d (src c d)) y 1
  rw [off2_eq] at h0 h1
  have e : ((xbSl (src c d) d).view.emb y : S4096x256.Idx) = ix2 (row c r) (⟨j.val % 256, Nat.mod_lt _ (by decide)⟩ : Fin 256) := by
    refine (ix2_eta _ _ _ ?_ ?_).symm
    · refine h0.trans ?_
      have hs : ((src c d).val + d.val) % 16 = c.val := by rw [← tgt_val, tgt_src]
      show 256 * (((src c d).val + d.val) % 16) + r.val = 256 * c.val + r.val
      rw [hs]
    · refine h1.trans ?_
      show 0 + j.val % 256 = j.val % 256
      omega
  show XB m ρ (src c d) ((xbSl (src c d) d).view.emb y) = _
  rw [e]
  exact (pay1_apply _ _).trans (xstg_apply m ρ X hX _ _ _ _ rfl)

/-- An element of the rows of `w` in the gathered order. -/
theorem wb_apply (c : Dev nD) (j : Fin 4096) (n : Fin 2048) :
    WB m ρ c (ix2 j n) = m ((c : Thread nD τ).loc main_arg1) (ix2 (place c j) n) := by
  set d : Fin 16 := ⟨j.val / 256, Nat.div_lt_of_lt_mul j.isLt⟩ with hd
  set y : S256x2048.Idx := ix2 (⟨j.val % 256, Nat.mod_lt _ (by decide)⟩ : Fin 256) n with hy
  have h0 : (((wSl c d).view.emb y (0 : Fin 2) : Fin _) : ℕ) = k0_off1 c (BitVec.ofNat 32 d.val) 0 + j.val % 256 :=
    ValueKit.view_emb_slice_whole_unit_val main_arg1 _ _ (inbW d c) y 0
  have h1 : (((wSl c d).view.emb y (1 : Fin 2) : Fin _) : ℕ) = k0_off1 c (BitVec.ofNat 32 d.val) 1 + n.val :=
    ValueKit.view_emb_slice_whole_unit_val main_arg1 _ _ (inbW d c) y 1
  rw [off1_eq] at h0 h1
  refine (pay3_apply (wBlock m ρ c d) _ y).trans ?_
  refine congrArg (m ((c : Thread nD τ).loc main_arg1)) (ix2_eta _ _ _ ?_ ?_).symm
  · refine h0.trans ?_
    rw [place_val]
    rfl
  · refine h1.trans ?_
    show 0 + n.val = n.val
    omega

/-- A quarter's columns of the gathered rows … -/
theorem xq_apply (c : Dev nD) (g : Fin 4) (r : Fin 256) (k : Fin 1024) (j : Fin 4096) (hj : j.val = k.val + 1024 * g.val) :
    XQ m ρ c g (ix2 r k) = XG m ρ c (ix2 r j) := by
  have h0 : (((xgM.access (rXgG g)).emb (ix2 r k) (0 : Fin 2) : Fin _) : ℕ) = 0 + r.val :=
    ValueKit.view_emb_slice_whole_unit_val cc0_scratch1 _ _ (inbXgG g) (ix2 r k) 0
  have h1 : (((xgM.access (rXgG g)).emb (ix2 r k) (1 : Fin 2) : Fin _) : ℕ) = 1024 * g.val + k.val :=
    ValueKit.view_emb_slice_whole_unit_val cc0_scratch1 _ _ (inbXgG g) (ix2 r k) 1
  refine (read_access cc0_scratch1 (rXgG g) _ (ix2 r k)).trans ?_
  exact congrArg (XG m ρ c) (ix2_eta _ _ _ (by rw [h0]; omega) (by rw [h1]; omega)).symm

/-- … and its rows of `w`. -/
theorem wq_apply (c : Dev nD) (g : Fin 4) (k : Fin 1024) (n : Fin 2048) (j : Fin 4096) (hj : j.val = k.val + 1024 * g.val) :
    WQ m ρ c g (ix2 k n) = WB m ρ c (ix2 j n) := by
  have h0 : (((wbM.access (rWbG g)).emb (ix2 k n) (0 : Fin 2) : Fin _) : ℕ) = 1024 * g.val + k.val :=
    ValueKit.view_emb_slice_whole_unit_val cc0_scratch3 _ _ (inbWbG g) (ix2 k n) 0
  have h1 : (((wbM.access (rWbG g)).emb (ix2 k n) (1 : Fin 2) : Fin _) : ℕ) = 0 + n.val :=
    ValueKit.view_emb_slice_whole_unit_val cc0_scratch3 _ _ (inbWbG g) (ix2 k n) 1
  refine (read_access cc0_scratch3 (rWbG g) _ (ix2 k n)).trans ?_
  exact congrArg (WB m ρ c) (ix2_eta _ _ _ (by rw [h0]; omega) (by rw [h1]; omega)).symm

theorem pay21_apply (a : Vec Ideal S256x1024 .bf16) (b : Vec Ideal S1024x2048 .bf16) (r : Fin 256) (n : Fin 2048) :
    k0_pay21 (F := Ideal) a b (ix2 r n) = ∑ k : Fin 1024, (a (ix2 r k) * b (ix2 k n) : EReal) := by
  refine (Ideal.matmul_plain_apply none a b _ r n).trans ?_
  show (Ideal.ofBits .f32 0x00000000#32 : EReal) + _ = _
  rw [Ideal.ofBits_zero_f32, zero_add]

theorem pay22_apply (a : Vec Ideal S256x1024 .bf16) (b : Vec Ideal S1024x2048 .bf16) (o : Vec Ideal S256x2048 .f32) (r : Fin 256) (n : Fin 2048) :
    k0_pay22 (F := Ideal) a b o (ix2 r n) = (o (ix2 r n) + ∑ k : Fin 1024, (a (ix2 r k) * b (ix2 k n) : EReal) : EReal) := by
  rw [← pay21_apply a b r n]
  show (o (Shape.reshapeEquiv _ _) + _ : EReal) = _
  rw [Shape.reshapeEquiv_self]
  rfl

/-- Four sums of a quarter each are the sum over all places. -/
theorem sum_quarters (f : Fin 4096 → EReal) (q : Fin 4 → EReal)
    (hq : ∀ g, q g = ∑ k : Fin 1024, f (⟨k.val + 1024 * g.val, by omega⟩ : Fin 4096)) : q 0 + q 1 + q 2 + q 3 = ∑ j, f j := by
  rw [← Equiv.sum_comp (finProdFinEquiv : Fin 4 × Fin 1024 ≃ Fin 4096), Fintype.sum_prod_type, Fin.sum_univ_four, hq, hq, hq, hq]
  rfl

include hX in
/-- The product of device `c` is its block of rows of the whole product. -/
theorem out_apply (W : FVec Ideal S4096x2048 .f32) (hW : ∀ c : Dev nD, m ((c : Thread nD τ).loc main_arg1) = W)
    (c : Dev nD) (r : Fin 256) (n : Fin 2048) :
    OUT m ρ c (ix2 r n) = ∑ k : Fin 4096, (X (ix2 (row c r) k) * W (ix2 k n) : EReal) := by
  rw [← (place_bijective c).sum_comp (fun k => (X (ix2 (row c r) k) * W (ix2 k n) : EReal))]
  refine Eq.trans ?_ (sum_quarters (fun j => (X (ix2 (row c r) (place c j)) * W (ix2 (place c j) n) : EReal))
    (fun g => ∑ k : Fin 1024, (XQ m ρ c g (ix2 r k) * WQ m ρ c g (ix2 k n) : EReal)) fun g => Finset.sum_congr rfl fun k _ => ?_)
  · unfold OUT
    rw [pay22_apply]
    unfold OUT2
    rw [pay22_apply]
    unfold OUT1
    rw [pay22_apply]
    unfold OUT0
    rw [pay21_apply]
  · rw [xq_apply m ρ c g r k ⟨k.val + 1024 * g.val, by omega⟩ rfl, wq_apply m ρ c g k n ⟨k.val + 1024 * g.val, by omega⟩ rfl,
      xg_apply m ρ X hX, wb_apply, hW]

end Whole

end Cert.KernelIdeal.Claims

end
-- ==== Proof.Quantise.lean ====
/-
  The quantisation over the extended reals, and the value claim.

  The maximum that a device takes over the sixteen local maxima is the maximum over the whole product: both are the
  least bound of the same absolute values. With the product's rows equal (Product), the quantised rows are equal too.
-/
module

public import proofs.«01_k».proof.Proof.Product
public import Idealize.ShloMosaic.Lib.StackMember

@[expose] public section

set_option maxRecDepth 16384

noncomputable section

namespace Cert.KernelIdeal.Claims

open Cert.KernelIdeal Cert.KernelIdeal.Gen
open Idealize.ShloMosaic Idealize.ShloMosaic.TcCoe
open Idealize.SL.Sem
open Idealize.ShloMosaic.ValueIdx (ix2 eq_ix2)

/-! ## Maxima as least bounds -/

/-- The value that a maximum starts from. -/
def least : EReal := Ideal.ofBits .f32 0xFF800000#32

/-- The absolute value. -/
def mag (x : EReal) : EReal := max x (-x)

/-- A vector maximum over all elements is at most `y` when its start and every element are. -/
theorem vectorMax_le {s t : Shape} {axes : List (Fin s.rank)} (x : FVec Ideal s .f32) (h : s.Reduces axes t) (hφ) (hacc) (j : t.Idx)
    (hj : ∀ i, h.drop i = j) (y : EReal) :
    (multiReduction .maximumf axes t x 0xFF800000#32 h hφ hacc j : EReal) ≤ y ↔ least ≤ y ∧ ∀ i, (x i : EReal) ≤ y := by
  rw [multiReduction_maximumf_eq_fold]
  refine (Finset.fold_max_le (β := EReal) y).trans (and_congr Iff.rfl ⟨fun H i => H i ?_, fun H i _ => H i⟩)
  exact Finset.mem_filter.mpr ⟨Finset.mem_univ i, hj i⟩

/-- The same for the host's. -/
theorem hostMax_le {s t u : Shape} {axes : List (Fin s.rank)} (x : FVec Ideal s .f32) (h : s.ReducesTo axes t) (hu : 0 < u.numel) (j : t.Idx)
    (hj : ∀ i, h.drop i = j) (y : EReal) :
    (Host.reduce (α := Ideal .f32) FloatOps.maximumf x (constant (F := Ideal) u .f32 0xFF800000#32) h hu j : EReal) ≤ y ↔ least ≤ y ∧ ∀ i, (x i : EReal) ≤ y := by
  rw [Host.reduce_eq_fold]
  refine (Finset.fold_max_le (β := EReal) y).trans (and_congr Iff.rfl ⟨fun H i => H i ?_, fun H i _ => H i⟩)
  exact Finset.mem_filter.mpr ⟨Finset.mem_univ i, hj i⟩

/-- A bound on all elements does not see the shape. -/
theorem forall_shapeCast {A : Type} {s t : Shape} (x : s.Idx → A) (h : t.numel = s.numel) (p : A → Prop) :
    (∀ i, p (x (Shape.reshapeEquiv h i))) ↔ ∀ i, p (x i) :=
  ⟨fun H i => by have e := H ((Shape.reshapeEquiv h).symm i); rwa [Equiv.apply_symm_apply] at e, fun H i => H _⟩

theorem S1_eq (i j : S1.Idx) : i = j := funext fun a => by
  have ha : a = 0 := Subsingleton.elim _ _
  subst ha
  exact Subsingleton.elim (α := Fin 1) (i 0) (j 0)

/-- A bound on the one element of a reduction that is extracted. -/
theorem extract_le (x : FVec Ideal S1 .f32) (h) (hp) (y : EReal) (P : Prop) (H : ∀ j, (x j : EReal) ≤ y ↔ P) :
    (extractAt ![0, 0, 0] (shapeCast S1x1x1 x h) hp : EReal) ≤ y ↔ P := H _

/-- A number spread over a vector stands in every lane, at any shape. -/
theorem spread_apply {s t : Shape} (v : Ideal .f32) (h : t.numel = s.numel) (i : t.Idx) : shapeCast t (broadcast s v) h i = v := rfl

/-- A device's local maximum … -/
def localTop (o : Vec Ideal S256x2048 .f32) : EReal :=
  extractAt ![0, 0, 0] (shapeCast S1x1x1 (multiReduction (F := Ideal) (φ := .f32) .maximumf [1, 2] S1
    (shapeCast S1x256x2048 (absf (F := Ideal) (φ := .f32) (shapeCast S256x2048 o shapeCasts_S256x2048_S256x2048)) shapeCasts_S256x2048_S1x256x2048)
    0xFF800000#32 reduces_S1x256x2048_S1 (.inl rfl) rfl) shapeCasts_S1_S1x1x1) inpos_S1x1x1_p0_0_0

theorem localTop_le (o : Vec Ideal S256x2048 .f32) (y : EReal) : localTop o ≤ y ↔ least ≤ y ∧ ∀ i, mag (o i) ≤ y := by
  refine extract_le _ _ _ y _ fun j => ?_
  refine (vectorMax_le _ reduces_S1x256x2048_S1 _ _ j (fun _ => S1_eq _ _) y).trans (and_congr Iff.rfl ?_)
  refine (forall_shapeCast (absf (F := Ideal) (φ := .f32) (shapeCast S256x2048 o shapeCasts_S256x2048_S256x2048)) _ (fun e : EReal => e ≤ y)).trans ?_
  exact forall_shapeCast o _ (fun e : EReal => mag e ≤ y)

/-- … stands in every lane. -/
theorem pay25_apply (o : Vec Ideal S256x2048 .f32) (i : S1x128.Idx) : k0_pay25 (F := Ideal) o i = localTop o := by
  unfold k0_pay25 localTop
  exact spread_apply _ _ i

/-- The maximum over the rows of local maxima. -/
def topOf (a : Vec Ideal S16x128 .f32) : EReal :=
  extractAt ![0, 0, 0] (shapeCast S1x1x1 (multiReduction (F := Ideal) (φ := .f32) .maximumf [1, 2] S1 (shapeCast S1x16x128 a shapeCasts_S16x128_S1x16x128)
    0xFF800000#32 reduces_S1x16x128_S1 (.inl rfl) rfl) shapeCasts_S1_S1x1x1) inpos_S1x1x1_p0_0_0

theorem topOf_le (a : Vec Ideal S16x128 .f32) (y : EReal) : topOf a ≤ y ↔ least ≤ y ∧ ∀ i, (a i : EReal) ≤ y := by
  refine extract_le _ _ _ y _ fun j => ?_
  refine (vectorMax_le _ reduces_S1x16x128_S1 _ _ j (fun _ => S1_eq _ _) y).trans (and_congr Iff.rfl ?_)
  exact forall_shapeCast a _ (fun e : EReal => e ≤ y)

/-! ## One element -/

/-- The value 127, as a literal is read. -/
def lim : EReal := Ideal.ofBits .f32 0x42FE0000#32

/-- The element `v` quantised by the maximum `g` and multiplied back. -/
def quant (g v : EReal) : EReal :=
  min lim (max (Ideal.ofBits .f32 0xC2FE0000#32) (Ideal.liftRound Ideal.roundHalfEven (Ideal.div v (Ideal.div g lim)))) * Ideal.div g lim

theorem pay26_apply (a : Vec Ideal S16x128 .f32) (o : Vec Ideal S256x2048 .f32) (i : S256x2048.Idx) :
    k0_pay26 (F := Ideal) a o i = quant (topOf a) (o i) := by
  have e : (o (Shape.reshapeEquiv shapeCasts_S256x2048_S256x2048 i) : EReal) = o i := congrArg o (Shape.reshapeEquiv_self _ i)
  rw [← e]
  rfl

/-! ## The whole result -/

/-- The blocks of rows of the result tile it. -/
theorem tiles_out : Layout.Tiles ⟨2, ![256, 2048]⟩ ⟨2, ![4096, 2048]⟩ 0 16 := by decide

section Whole

variable (m : (ℓ : Loc nD τ sig) → Buf (Elt Ideal) ℓ) (ρ : Dev nD → PrngReg)
variable (D : FVec Ideal ⟨2, ![4096, 2048]⟩ .f32)
variable (hO : ∀ (c : Dev nD) (r : Fin 256) (n : Fin 2048), OUT m ρ c (ix2 r n) = D (ix2 (row c r) n))

/-- Every device is some number of places back from any other. -/
theorem exists_src (c c' : Dev nD) : ∃ d : Fin 16, src c d = c' := by
  have hc : c.val < 16 := c.isLt
  have hc' : c'.val < 16 := c'.isLt
  refine ⟨⟨(c.val + 16 - c'.val) % 16, by omega⟩, Fin.ext ?_⟩
  rw [src_val]
  show (c.val + (16 - (c.val + 16 - c'.val) % 16)) % 16 = c'.val
  omega

include hO in
theorem out_at (c : Dev nD) (k : S256x2048.Idx) (i : (⟨2, ![4096, 2048]⟩ : Shape).Idx)
    (h0 : (i (0 : Fin 2)).val = 256 * c.val + (k (0 : Fin 2)).val) (h1 : (i (1 : Fin 2)).val = (k (1 : Fin 2)).val) : OUT m ρ c k = D i :=
  (congrArg (OUT m ρ c) (eq_ix2 k)).trans ((hO c _ _).trans (congrArg D (ix2_eta i _ _ h0 h1)))

include hO in
/-- The maximum that a device finds is the maximum over the whole product. -/
theorem top_eq (c : Dev nD) (R : EReal) (hR : ∀ y, R ≤ y ↔ least ≤ y ∧ ∀ i, mag (D i) ≤ y) : topOf (AM m ρ c) = R := by
  have hA : ∀ i : S16x128.Idx, (AM m ρ c i : EReal) = localTop (OUT m ρ (src c (i (0 : Fin 2)))) := fun i => pay25_apply _ _
  refine eq_of_forall_ge_iff fun y => ?_
  rw [topOf_le, hR]
  refine and_congr_right fun hl => ⟨fun H i => ?_, fun H i => ?_⟩
  · have h0 : (i (0 : Fin 2)).val < 4096 := (i (0 : Fin 2)).isLt
    obtain ⟨d, hd⟩ := exists_src c ⟨(i (0 : Fin 2)).val / 256, by show _ < 16; omega⟩
    have h := H (ix2 d (0 : Fin 128))
    rw [hA, show src c ((ix2 d (0 : Fin 128) : S16x128.Idx) (0 : Fin 2)) = _ from hd, localTop_le] at h
    refine (congrArg mag (out_at m ρ D hO _ (ix2 (⟨(i (0 : Fin 2)).val % 256, Nat.mod_lt _ (by decide)⟩ : Fin 256) (i (1 : Fin 2))) i ?_ rfl)).symm.le.trans (h.2 _)
    show (i (0 : Fin 2)).val = 256 * ((i (0 : Fin 2)).val / 256) + (i (0 : Fin 2)).val % 256
    omega
  · rw [hA, localTop_le]
    refine ⟨hl, fun k => ?_⟩
    have hk : (k (0 : Fin 2)).val < 256 := (k (0 : Fin 2)).isLt
    exact (congrArg mag (out_at m ρ D hO _ k (ix2 (row (src c (i (0 : Fin 2))) (k (0 : Fin 2))) (k (1 : Fin 2))) rfl rfl)).le.trans (H _)

include hO in
/-- A device's result is its block of rows of the whole quantised product. -/
theorem outAt_eq (c : Dev nD) (R : EReal) (hR : ∀ y, R ≤ y ↔ least ≤ y ∧ ∀ i, mag (D i) ≤ y) (V : FVec Ideal ⟨2, ![4096, 2048]⟩ .f32)
    (hV : ∀ i, V i = quant R (D i)) : outAt m ρ c = Layout.block ⟨2, ![256, 2048]⟩ ⟨2, ![4096, 2048]⟩ 0 16 c V tiles_out := by
  funext x
  refine (pay26_apply (AM m ρ c) (OUT m ρ c) x).trans ?_
  rw [top_eq m ρ D hO c R hR, Layout.block_apply, hV]
  refine congrArg (quant R) (out_at m ρ D hO c x _ ?_ rfl)
  show c.val * 256 + (x (0 : Fin 2)).val = 256 * c.val + (x (0 : Fin 2)).val
  omega

end Whole

/-! ## The claim -/

theorem S_eq (i j : Cert.ReferenceIdeal.S_.Idx) : i = j := funext fun a => a.elim0

theorem value : Cert.algebraic_KernelIdeal_ReferenceIdeal := by
  intro m g m' g' _ hin
  refine ⟨_, ?_, (θ_run Cert.ReferenceIdeal.defs _ _).mono (fun _ h => h (0 : Dev Cert.ReferenceIdeal.nD)) (Cert.ReferenceIdeal.Value.run (F := Ideal) m' g')⟩
  refine (θ_run defs _ _).mono (fun r h c => ⟨?_, (h.1.1 c (0 : Fin 2)).trans (final_x m g c), h.1.2 c⟩) (run_main m g)
  refine (h.1.1 c (1 : Fin 2)).trans ((final_out m g c).trans ?_)
  exact outAt_eq m g _ (fun c' r n => (out_apply m g _ (fun e => (hin e).1) _ (fun e => (hin e).2) c' r n).trans (StackMember.dotGeneral_plain_apply none _ _ _ _).symm)
    c _ (fun y => hostMax_le _ Cert.ReferenceIdeal.Gen.facts.reducesTo_S4096x2048_S_d0_1 Cert.ReferenceIdeal.Gen.facts.h_S_ (fun a => a.elim0) (fun _ => S_eq _ _) y) _ (fun i => rfl)

end Cert.KernelIdeal.Claims

end
-- ==== Proof.lean ====
/-
  The certificate: the claims of `Cert.Claim`, put together from the modules under `Proof/`.

  Program names the devices' addresses and offsets, Protocol states what is handed over at every semaphore, Regions
  and Landing split and read the buffers, Steps, Transfers, Compute and Loops run the parts of the body, Body and Run
  put them together for all devices, Results reads the results off the run, and Product and Quantise read them over the
  extended reals and compare them with the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Quantise
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KernelIdeal.Claims.frame_kernel, Cert.KernelIdeal.Claims.frame_kernelIdeal,
  Cert.KernelIdeal.Claims.frame_reference, trivial, Cert.KernelIdeal.Claims.value⟩

end Cert.Proof

end
